-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_near_apart [hPre_near_apart : Cert.Pre_near_apart.Facts] (m : (ℓ : Loc Cert.KernelIdeal.nD Cert.KernelIdeal.τ Cert.KernelIdeal.sig) → Buf (Elt Ideal) ℓ) : Prop :=
  ∀ c : Dev Cert.KernelIdeal.nD,
    (Cert.Pre_near_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_near_apart [hPre_near_apart : Cert.Pre_near_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_near_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_near_apart [hKernelIdeal : Cert.KernelIdeal.Facts] [hPre_near_apart : Cert.Pre_near_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_near_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_near_apart [hReferenceIdeal : Cert.ReferenceIdeal.Facts] [hPre_near_apart : Cert.Pre_near_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_near_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "far" .f32 0x7F61B1E6#32 ⊤

def algebraic_KernelIdeal_ReferenceIdeal_pre_near_apart [hKernelIdeal : Cert.KernelIdeal.Facts] [hReferenceIdeal : Cert.ReferenceIdeal.Facts] [hPre_near_apart : Cert.Pre_near_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_near_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_near_apart : Cert.Pre_near_apart.Facts),
    quiescent_Kernel (hKernel := hKernel)
    ∧ quiescent_KernelIdeal (hKernelIdeal := hKernelIdeal)
    ∧ quiescent_KernelIdeal_pre_near_apart (hKernelIdeal := hKernelIdeal) (hPre_near_apart := hPre_near_apart)
    ∧ quiescent_ReferenceIdeal (hReferenceIdeal := hReferenceIdeal)
    ∧ quiescent_ReferenceIdeal_pre_near_apart (hReferenceIdeal := hReferenceIdeal) (hPre_near_apart := hPre_near_apart)
    ∧ preserves_Kernel_KernelIdeal
    ∧ algebraic_KernelIdeal_ReferenceIdeal_pre_near_apart (hKernelIdeal := hKernelIdeal) (hReferenceIdeal := hReferenceIdeal) (hPre_near_apart := hPre_near_apart)
-- ==== Pre_near_apart.lean ====
abbrev S8x4096x3 : Shape := ⟨3, ![8, 4096, 3]⟩
abbrev S8x1024x3 : Shape := ⟨3, ![8, 1024, 3]⟩
abbrev S8x256x4096 : Shape := ⟨3, ![8, 256, 4096]⟩
abbrev S8x256x1024 : Shape := ⟨3, ![8, 256, 1024]⟩
abbrev S256x512 : Shape := ⟨2, ![256, 512]⟩
abbrev S256 : Shape := ⟨1, ![256]⟩
abbrev S256x256 : Shape := ⟨2, ![256, 256]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S8x4096x4 : Shape := ⟨3, ![8, 4096, 4]⟩

class Facts : Prop where
  bcast_S_S8x4096x1024 : S_.BroadcastsInDim S8x4096x1024 (![] : Fin 0 → Fin S8x4096x1024.rank)
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096x1_S8x4096x1024_0_1_2 : S8x4096x1.BroadcastsInDim S8x4096x1024 (![0, 1, 2] : Fin 3 → Fin S8x4096x1024.rank)
  reducesTo_S8x1024x3_S8x1024_d2 : S8x1024x3.ReducesTo [2] S8x1024
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  slices_S8x4096x1024_S8x4096x4_0_0_0 : S8x4096x1024.Slices ![0, 0, 0] S8x4096x4
  bcast_S_S8x1024x3 : S_.BroadcastsInDim S8x1024x3 (![] : Fin 0 → Fin S8x1024x3.rank)
  reducesTo_S8x1024x3_S_d0_1_2 : S8x1024x3.ReducesTo [0, 1, 2] S_
  slices_S8x4096x4_S8x4096x3_0_0_0 : S8x4096x4.Slices ![0, 0, 0] S8x4096x3
  slices_S8x4096x4_S8x4096x3_0_0_1 : S8x4096x4.Slices ![0, 0, 1] S8x4096x3
  reducesTo_S8x4096x3_S_d0_1_2 : S8x4096x3.ReducesTo [0, 1, 2] S_
  dot_S8x4096x3_S8x1024x3_S8x4096x1024_2_2_1_1_0_0_wf : DotDims.WF S8x4096x3 S8x1024x3 S8x4096x1024 [2] [2] [1] [1] [0] [0]

variable [Facts]

variable {F : FTy → Type} [FloatOps F]
def dot_S8x4096x3_S8x1024x3_S8x4096x1024_2_2_1_1_0_0 : DotDims S8x4096x3 S8x1024x3 S8x4096x1024 where
  lhsContracting := [2]
  rhsContracting := [2]
  lhsNonContracting := [1]
  rhsNonContracting := [1]
  lhsBatch := [0]
  rhsBatch := [0]
  wf := dot_S8x4096x3_S8x1024x3_S8x4096x1024_2_2_1_1_0_0_wf
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S8x4096x1024 .f32) : FVec F S8x4096x1024 .f32 :=
  let v0 : FVec F S8x4096x1024 .f32 := (fun x => Host.sort S8x4096x1024 2 comparator_f32_d2 x) arg0
  v0

def fn_part1 {F : FTy → Type} [FloatOps F] (main_v14 : FVec F S8x4096x4 .f32) (main_v18 : IVec S_ 1) : IVec S_ 1 :=
  let main_v19 : FVec F S8x4096x3 .f32 := (extractStridedSlice S8x4096x3 ![0, 0, 0] · slices_S8x4096x4_S8x4096x3_0_0_0) main_v14
  let main_v20 : FVec F S8x4096x3 .f32 := (extractStridedSlice S8x4096x3 ![0, 0, 1] · slices_S8x4096x4_S8x4096x3_0_0_1) main_v14
  let main_v21 : IVec S8x4096x3 1 := cmpf .olt main_v19 main_v20
  let main_c_3 : IVec S_ 1 := constantI S_ 1 1#1
  let main_v22 : IVec S_ 1 := (fun x v => Host.reduce IntOp.andi x v reducesTo_S8x4096x3_S_d0_1_2 h_S_) main_v21 main_c_3
  let main_v23 : IVec S_ 1 := andi main_v18 main_v22
  main_v23

def fn {F : FTy → Type} [FloatOps F] (main_arg0 : FVec F S8x4096x3 .f32) (main_arg1 : FVec F S8x1024x3 .f32) (main_arg2 : FVec F S8x256x4096 .f32) (main_arg3 : FVec F S8x256x1024 .f32) (main_arg4 : FVec F S256x512 .f32) (main_arg5 : FVec F S256 .f32) (main_arg6 : FVec F S256x256 .f32) (main_arg7 : FVec F S256 .f32) : IVec S_ 1 :=
  let main_v0 : FVec F S8x4096x1024 .f32 := (fun l r => Host.dotGeneral dot_S8x4096x3_S8x1024x3_S8x4096x1024_2_2_1_1_0_0 none l r) main_arg0 main_arg1
  let main_cst : FVec F S_ .f32 := constant S_ .f32 0xC0000000#32
  let main_v1 : FVec F S8x4096x1024 .f32 := broadcastInDim S8x4096x1024 ![] bcast_S_S8x4096x1024 main_cst
  let main_v2 : FVec F S8x4096x1024 .f32 := mulf main_v1 main_v0
  let main_v3 : FVec F S8x4096x3 .f32 := mulf main_arg0 main_arg0
  let main_cst_0 : FVec F S_ .f32 := constant S_ .f32 0x00000000#32
  let main_v4 : FVec F S8x4096 .f32 := (fun x v => Host.reduceAdd x v reducesTo_S8x4096x3_S8x4096_d2 h_S_) main_v3 main_cst_0
  let main_v5 : FVec F S8x4096x1 .f32 := broadcastInDim S8x4096x1 ![0, 1] bcast_S8x4096_S8x4096x1_0_1 main_v4
  let main_v6 : FVec F S8x4096x1024 .f32 := broadcastInDim S8x4096x1024 ![0, 1, 2] bcast_S8x4096x1_S8x4096x1024_0_1_2 main_v5
  let main_v7 : FVec F S8x4096x1024 .f32 := addf main_v2 main_v6
  let main_v8 : FVec F S8x1024x3 .f32 := mulf main_arg1 main_arg1
  let main_cst_1 : FVec F S_ .f32 := constant S_ .f32 0x00000000#32
  let main_v9 : FVec F S8x1024 .f32 := (fun x v => Host.reduceAdd x v reducesTo_S8x1024x3_S8x1024_d2 h_S_) main_v8 main_cst_1
  let main_v10 : FVec F S8x1x1024 .f32 := broadcastInDim S8x1x1024 ![0, 2] bcast_S8x1024_S8x1x1024_0_2 main_v9
  let main_v11 : FVec F S8x4096x1024 .f32 := broadcastInDim S8x4096x1024 ![0, 1, 2] bcast_S8x1x1024_S8x4096x1024_0_1_2 main_v10
  let main_v12 : FVec F S8x4096x1024 .f32 := addf main_v7 main_v11
  let main_v13 : FVec F S8x4096x1024 .f32 := fn_sort (F := F) main_v12
  let main_v14 : FVec F S8x4096x4 .f32 := (extractStridedSlice S8x4096x4 ![0, 0, 0] · slices_S8x4096x1024_S8x4096x4_0_0_0) main_v13
  let main_v15 : FVec F S8x1024x3 .f32 := Host.absf main_arg1
  let main_cst_2 : FVec F S_ .f32 := constant S_ .f32 0x7F800000#32
  let main_v16 : FVec F S8x1024x3 .f32 := broadcastInDim S8x1024x3 ![] bcast_S_S8x1024x3 main_cst_2
  let main_v17 : IVec S8x1024x3 1 := cmpf .olt main_v15 main_v16
  let main_c : IVec S_ 1 := constantI S_ 1 1#1
  let main_v18 : IVec S_ 1 := (fun x v => Host.reduce IntOp.andi x v reducesTo_S8x1024x3_S_d0_1_2 h_S_) main_v17 main_c
  fn_part1 (F := F) main_v14 main_v18
-- ==== Kernel.lean ====
abbrev S8x4096x3 : Shape := ⟨3, ![8, 4096, 3]⟩
abbrev S8x1024x3 : Shape := ⟨3, ![8, 1024, 3]⟩
abbrev S8x256x4096 : Shape := ⟨3, ![8, 256, 4096]⟩
abbrev S8x256x1024 : Shape := ⟨3, ![8, 256, 1024]⟩
abbrev S256x512 : Shape := ⟨2, ![256, 512]⟩
abbrev S256 : Shape := ⟨1, ![256]⟩
abbrev S256x256 : Shape := ⟨2, ![256, 256]⟩
abbrev S8x3x4096 : Shape := ⟨3, ![8, 3, 4096]⟩
abbrev S256x1 : Shape := ⟨2, ![256, 1]⟩
abbrev S1x3x2048 : Shape := ⟨3, ![1, 3, 2048]⟩
abbrev S1x1024x3 : Shape := ⟨3, ![1, 1024, 3]⟩
abbrev S1x256x2048 : Shape := ⟨3, ![1, 256, 2048]⟩
abbrev S1x256x1024 : Shape := ⟨3, ![1, 256, 1024]⟩
abbrev S1024x2048 : Shape := ⟨2, ![1024, 2048]⟩
abbrev S3x2048 : Shape := ⟨2, ![3, 2048]⟩
abbrev S1024x3 : Shape := ⟨2, ![1024, 3]⟩
abbrev S2048 : Shape := ⟨1, ![2048]⟩
abbrev S1x2048 : Shape := ⟨2, ![1, 2048]⟩
abbrev S1024 : Shape := ⟨1, ![1024]⟩
abbrev S1024x1 : Shape := ⟨2, ![1024, 1]⟩
abbrev S8x2048 : Shape := ⟨2, ![8, 2048]⟩
abbrev S256x1024 : Shape := ⟨2, ![256, 1024]⟩
abbrev S256x2048 : Shape := ⟨2, ![256, 2048]⟩

abbrev nBuf : Space → Nat
  | .hbm => 14
  | .vmem => 16
  | .smem => 0
  | _ => 0

abbrev bufTy : (tb : Table) → Fin (tcTables nBuf tb) → BufTy
  | .hbm, ⟨0, _⟩ => ⟨S8x4096x3, .f32⟩
  | .hbm, ⟨1, _⟩ => ⟨S8x1024x3, .f32⟩
  | .hbm, ⟨2, _⟩ => ⟨S8x256x4096, .f32⟩
  | .hbm, ⟨3, _⟩ => ⟨S8x256x1024, .f32⟩
  | .hbm, ⟨4, _⟩ => ⟨S256x512, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S8x3x4096, .f32⟩
  | .hbm, ⟨9, _⟩ => ⟨S256x256, .f32⟩
  | .hbm, ⟨10, _⟩ => ⟨S256x256, .f32⟩
  | .hbm, ⟨11, _⟩ => ⟨S256x1, .f32⟩
  | .hbm, ⟨12, _⟩ => ⟨S256x1, .f32⟩
  | .hbm, ⟨13, _⟩ => ⟨S8x256x4096, .f32⟩
  | .local _ .vmem, ⟨0, _⟩ => ⟨S1x3x2048, .f32⟩
  | .local _ .vmem, ⟨1, _⟩ => ⟨S1x3x2048, .f32⟩
  | .local _ .vmem, ⟨2, _⟩ => ⟨S1x1024x3, .f32⟩
  | .local _ .vmem, ⟨3, _⟩ => ⟨S1x1024x3, .f32⟩
  | .local _ .vmem, ⟨4, _⟩ => ⟨S1x256x2048, .f32⟩
  | .local _ .vmem, ⟨5, _⟩ => ⟨S1x256x2048, .f32⟩
  | .local _ .vmem, ⟨6, _⟩ => ⟨S1x256x1024, .f32⟩
  | .local _ .vmem, ⟨7, _⟩ => ⟨S1x256x1024, .f32⟩
  | .local _ .vmem, ⟨8, _⟩ => ⟨S256x256, .f32⟩
  | .local _ .vmem, ⟨9, _⟩ => ⟨S256x256, .f32⟩
  | .local _ .vmem, ⟨10, _⟩ => ⟨S256x1, .f32⟩
  | .local _ .vmem, ⟨11, _⟩ => ⟨S256x256, .f32⟩
  | .local _ .vmem, ⟨12, _⟩ => ⟨S256x1, .f32⟩
  | .local _ .vmem, ⟨13, _⟩ => ⟨S1x256x2048, .f32⟩
  | .local _ .vmem, ⟨14, _⟩ => ⟨S1x256x2048, .f32⟩
  | .local _ .vmem, ⟨15, _⟩ => ⟨S1024x2048, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "far" => some ⊤
  | _ => none
-- ==== ReferenceIdeal.lean ====
abbrev S8x4096x3 : Shape := ⟨3, ![8, 4096, 3]⟩
abbrev S8x1024x3 : Shape := ⟨3, ![8, 1024, 3]⟩
abbrev S8x256x4096 : Shape := ⟨3, ![8, 256, 4096]⟩
abbrev S8x256x1024 : Shape := ⟨3, ![8, 256, 1024]⟩
abbrev S256x512 : Shape := ⟨2, ![256, 512]⟩
abbrev S256 : Shape := ⟨1, ![256]⟩
abbrev S256x256 : Shape := ⟨2, ![256, 256]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S8x1024x256 : Shape := ⟨3, ![8, 1024, 256]⟩
abbrev S8x4096x3x1 : Shape := ⟨4, ![8, 4096, 3, 1]⟩
abbrev S8x4096x3x256 : Shape := ⟨4, ![8, 4096, 3, 256]⟩
abbrev S8x4096x256 : Shape := ⟨3, ![8, 4096, 256]⟩
abbrev S8x4096x512 : Shape := ⟨3, ![8, 4096, 512]⟩
abbrev S8x512x4096 : Shape := ⟨3, ![8, 512, 4096]⟩
abbrev S1x256x1 : Shape := ⟨3, ![1, 256, 1]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x1024x3, .f32⟩
  | .hbm, ⟨2, _⟩ => ⟨S8x256x4096, .f32⟩
  | .hbm, ⟨3, _⟩ => ⟨S8x256x1024, .f32⟩
  | .hbm, ⟨4, _⟩ => ⟨S256x512, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S8x4096x1024, .f32⟩
  | .hbm, ⟨9, _⟩ => ⟨S_, .f32⟩
  | .hbm, ⟨10, _⟩ => ⟨S8x4096x1024, .f32⟩
  | .hbm, ⟨11, _⟩ => ⟨S8x4096x1024, .f32⟩
  | .hbm, ⟨12, _⟩ => ⟨S8x4096x3, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S8x1024x3, .f32⟩
  | .hbm, ⟨19, _⟩ => ⟨S_, .f32⟩
  | .hbm, ⟨20, _⟩ => ⟨S8x1024, .f32⟩
  | .hbm, ⟨21, _⟩ => ⟨S8x1x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x3, .f32⟩
  | .hbm, ⟨26, _⟩ => ⟨S8x4096x1024, .i32⟩
  | .hbm, ⟨27, _⟩ => ⟨S8x4096x1024, .f32⟩
  | .hbm, ⟨28, _⟩ => ⟨S8x4096x1024, .i32⟩
  | .hbm, ⟨29, _⟩ => ⟨S8x4096x3, .i32⟩
  | .hbm, ⟨30, _⟩ => ⟨S_, .f32⟩
  | .hbm, ⟨31, _⟩ => ⟨S8x4096x3, .f32⟩
  | .hbm, ⟨32, _⟩ => ⟨S8x4096x3, .f32⟩
  | .hbm, ⟨33, _⟩ => ⟨S_, .f32⟩
  | .hbm, ⟨34, _⟩ => ⟨S8x4096x3, .f32⟩
  | .hbm, ⟨35, _⟩ => ⟨S8x4096x3, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x3, .f32⟩
  | .hbm, ⟨40, _⟩ => ⟨S8x4096x3, .f32⟩
  | .hbm, ⟨41, _⟩ => ⟨S8x1024x256, .f32⟩
  | .hbm, ⟨42, _⟩ => ⟨S_, .i32⟩
  | .hbm, ⟨43, _⟩ => ⟨S8x4096x3, .i32⟩
  | .hbm, ⟨44, _⟩ => ⟨S8x4096x3, .i1⟩
  | .hbm, ⟨45, _⟩ => ⟨S_, .i32⟩
  | .hbm, ⟨46, _⟩ => ⟨S8x4096x3, .i32⟩
  | .hbm, ⟨47, _⟩ => ⟨S8x4096x3, .i32⟩
  | .hbm, ⟨48, _⟩ => ⟨S8x4096x3, .i32⟩
  | .hbm, ⟨49, _⟩ => ⟨S8x4096x3x1, .i32⟩
  | .hbm, ⟨50, _⟩ => ⟨S8x4096x3x256, .f32⟩
  | .hbm, ⟨51, _⟩ => ⟨S8x4096x3x1, .f32⟩
  | .hbm, ⟨52, _⟩ => ⟨S8x4096x3x256, .f32⟩
  | .hbm, ⟨53, _⟩ => ⟨S8x4096x3x256, .f32⟩
  | .hbm, ⟨54, _⟩ => ⟨S_, .f32⟩
  | .hbm, ⟨55, _⟩ => ⟨S8x4096x256, .f32⟩
  | .hbm, ⟨56, _⟩ => ⟨S8x4096x256, .f32⟩
  | .hbm, ⟨57, _⟩ => ⟨S8x4096x512, .f32⟩
  | .hbm, ⟨58, _⟩ => ⟨S8x512x4096, .f32⟩
  | .hbm, ⟨59, _⟩ => ⟨S8x4096x256, .f32⟩
  | .hbm, ⟨60, _⟩ => ⟨S8x256x4096, .f32⟩
  | .hbm, ⟨61, _⟩ => ⟨S1x256x1, .f32⟩
  | .hbm, ⟨62, _⟩ => ⟨S8x256x4096, .f32⟩
  | .hbm, ⟨63, _⟩ => ⟨S8x256x4096, .f32⟩
  | .hbm, ⟨64, _⟩ => ⟨S_, .f32⟩
  | .hbm, ⟨65, _⟩ => ⟨S8x256x4096, .f32⟩
  | .hbm, ⟨66, _⟩ => ⟨S8x256x4096, .f32⟩
  | .hbm, ⟨67, _⟩ => ⟨S8x4096x256, .f32⟩
  | .hbm, ⟨68, _⟩ => ⟨S8x256x4096, .f32⟩
  | .hbm, ⟨69, _⟩ => ⟨S1x256x1, .f32⟩
  | .hbm, ⟨70, _⟩ => ⟨S8x256x4096, .f32⟩
  | .hbm, ⟨71, _⟩ => ⟨S8x256x4096, .f32⟩
  | .hbm, ⟨72, _⟩ => ⟨S_, .f32⟩
  | .hbm, ⟨73, _⟩ => ⟨S8x256x4096, .f32⟩
  | .hbm, ⟨74, _⟩ => ⟨S8x256x4096, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_v0 : Ref sig .tc := ⟨.hbm, 26, rfl⟩
abbrev main_call1_v1_0 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call2_cst : Ref sig .tc := ⟨.hbm, 64, rfl⟩
abbrev main_call2_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call3_cst : Ref sig .tc := ⟨.hbm, 72, rfl⟩
abbrev main_call3_v0 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== Proof.Three.lean ====
/-
  THE THREE SMALLEST BY AN INSERTION NETWORK, over the extended reals. The kernel keeps, for each of the eight
  residues of a candidate's number modulo eight, the three smallest distances seen so far (`step`, `sweep`), and
  then reads the three smallest of all off the eight triples (`first`, `second`, `third`). Nothing here mentions a
  program.
-/
module

public import Mathlib.Data.EReal.Basic
public import Mathlib.Data.Finset.Lattice.Fold
public import Mathlib.Data.Nat.Count

@[expose] public section

noncomputable section

namespace Cert.Proof.Three

/-- One candidate `x` enters the three smallest kept so far. -/
def step (t : EReal × EReal × EReal) (x : EReal) : EReal × EReal × EReal :=
  (min t.1 x, min t.2.1 (max t.1 x), min t.2.2 (max t.2.1 (max t.1 x)))

/-- The three kept after the candidates `f 0`, …, `f n` have entered one by one. -/
def sweep (f : ℕ → EReal) : ℕ → EReal × EReal × EReal
  | 0 => (f 0, ⊤, ⊤)
  | n + 1 => step (sweep f n) (f (n + 1))

open Classical in
/-- How many of the first `n` candidates are at most `y`. -/
def cnt (f : ℕ → EReal) (n : ℕ) (y : EReal) : ℕ := Nat.count (fun i => f i ≤ y) n

/-- The three kept after `n + 1` candidates, told by the count: the `k`-th kept is at most a `y` below `⊤` exactly
    when at least `k` of the candidates are. -/
theorem sweep_le_iff (f : ℕ → EReal) (n : ℕ) (y : EReal) (hy : y < ⊤) :
    ((sweep f n).1 ≤ y ↔ 1 ≤ cnt f (n + 1) y) ∧ ((sweep f n).2.1 ≤ y ↔ 2 ≤ cnt f (n + 1) y)
      ∧ ((sweep f n).2.2 ≤ y ↔ 3 ≤ cnt f (n + 1) y) := by
  classical
  induction n with
  | zero =>
    have h : ¬ (⊤ : EReal) ≤ y := not_le.mpr hy
    by_cases hf : f 0 ≤ y <;> simp [sweep, cnt, Nat.count_succ, hf, h, -top_le_iff]
  | succ n ih =>
    have e : cnt f (n + 1 + 1) y = cnt f (n + 1) y + if f (n + 1) ≤ y then 1 else 0 := by
      unfold cnt; rw [Nat.count_succ]
    obtain ⟨h1, h2, h3⟩ := ih
    rw [e]
    simp only [sweep, step, min_le_iff, max_le_iff, h1, h2, h3]
    by_cases hf : f (n + 1) ≤ y <;> simp only [hf, if_true, if_false, or_true, and_true, or_false, and_false] <;>
      refine ⟨?_, ?_, ?_⟩ <;> first | (constructor <;> intro <;> omega) | simp

section classes

variable {ι : Type} [Fintype ι] (t1 t2 t3 : ι → EReal)

/-- The smallest of all: the least of the classes' smallest. -/
def first : EReal := Finset.univ.inf t1

open Classical in
/-- The second smallest, as the kernel reads it: the least of the classes' smallest above the first and of their
    second smallest. -/
def second (v1 : EReal) : EReal :=
  min (Finset.univ.inf fun r => if t1 r ≤ v1 then ⊤ else t1 r) (Finset.univ.inf t2)

open Classical in
/-- The third smallest, as the kernel reads it. -/
def third (v2 : EReal) : EReal :=
  min (min (Finset.univ.inf fun r => if t1 r ≤ v2 then ⊤ else t1 r)
    (Finset.univ.inf fun r => if t2 r ≤ v2 then ⊤ else t2 r)) (Finset.univ.inf t3)

variable (cn : ι → EReal → ℕ) (r0 r1 r2 : ι) (A B C : EReal)

open Classical in
/-- The hypotheses of the three theorems below: the classes' kept values are told by the counts `cn`, and up to `C`
    the counts are those of three candidates only, of values `A < B < C`, in the classes `r0`, `r1`, `r2`. -/
structure Told : Prop where
  le1 : ∀ r y, y < ⊤ → (t1 r ≤ y ↔ 1 ≤ cn r y)
  le2 : ∀ r y, y < ⊤ → (t2 r ≤ y ↔ 2 ≤ cn r y)
  le3 : ∀ r y, y < ⊤ → (t3 r ≤ y ↔ 3 ≤ cn r y)
  count : ∀ r y, y ≤ C → cn r y
    = (if r0 = r ∧ A ≤ y then 1 else 0) + (if r1 = r ∧ B ≤ y then 1 else 0) + (if r2 = r ∧ C ≤ y then 1 else 0)
  hAB : A < B
  hBC : B < C
  hC : C < ⊤

variable {t1 t2 t3 cn r0 r1 r2 A B C}

/-- The first is `A`. -/
theorem Told.first_eq (h : Told t1 t2 t3 cn r0 r1 r2 A B C) : first t1 = A := by
  have hAC := h.hAB.trans h.hBC
  refine le_antisymm ((Finset.inf_le (Finset.mem_univ r0)).trans ((h.le1 _ _ (hAC.trans h.hC)).mpr ?_))
    (Finset.le_inf fun r _ => ?_)
  · rw [h.count _ _ hAC.le, if_pos ⟨rfl, le_rfl⟩]; omega
  · by_contra hlt
    rw [not_le] at hlt
    have := (h.le1 r (t1 r) (hlt.trans (hAC.trans h.hC))).mp le_rfl
    rw [h.count _ _ (hlt.trans hAC).le] at this
    simp [not_le.mpr hlt, not_le.mpr (hlt.trans h.hAB), not_le.mpr (hlt.trans hAC)] at this

/-- A class's value kept, when it is above the earlier ones' bound `X`, is at least the next value `Y`, if between
    the two bounds the counts do not grow. -/
theorem le_of_count {t : EReal} {k : ℕ} {cr : EReal → ℕ} {X Y : EReal} (hY : Y < ⊤)
    (ht : ∀ y, y < ⊤ → (t ≤ y ↔ k ≤ cr y)) (hXY : X < Y) (hc : ∀ y, y < Y → cr y ≤ cr X) (hX : ¬ t ≤ X) : Y ≤ t := by
  by_contra hlt
  rw [not_le] at hlt
  have h1 := (ht t (hlt.trans hY)).mp le_rfl
  exact hX ((ht X (hXY.trans hY)).mpr (h1.trans (hc _ hlt)))

/-- An indicator is at most that of a weaker condition. -/
theorem ite_le_ite {p q : Prop} [Decidable p] [Decidable q] (h : p → q) : (if p then 1 else 0 : ℕ) ≤ if q then 1 else 0 := by
  by_cases hp : p
  · rw [if_pos hp, if_pos (h hp)]
  · rw [if_neg hp]; exact Nat.zero_le _

open Classical in
/-- Below `B` a class counts no more than at `A`, and below `C` no more than at `B`. -/
theorem Told.count_le (h : Told t1 t2 t3 cn r0 r1 r2 A B C) (r : ι) :
    (∀ y, y < B → cn r y ≤ cn r A) ∧ ∀ y, y < C → cn r y ≤ cn r B := by
  have hAC := h.hAB.trans h.hBC
  refine ⟨fun y hy => ?_, fun y hy => ?_⟩
  · rw [h.count _ _ (hy.trans h.hBC).le, h.count _ _ hAC.le]
    refine Nat.add_le_add (Nat.add_le_add (ite_le_ite ?_) (ite_le_ite ?_)) (ite_le_ite ?_)
    · exact fun p => ⟨p.1, le_rfl⟩
    · exact fun p => absurd p.2 (not_le.mpr hy)
    · exact fun p => absurd p.2 (not_le.mpr (hy.trans h.hBC))
  · rw [h.count _ _ hy.le, h.count _ _ h.hBC.le]
    refine Nat.add_le_add (Nat.add_le_add (ite_le_ite ?_) (ite_le_ite ?_)) (ite_le_ite ?_)
    · exact fun p => ⟨p.1, h.hAB.le⟩
    · exact fun p => ⟨p.1, le_rfl⟩
    · exact fun p => absurd p.2 (not_le.mpr hy)

/-- At `A` at most one is counted, at `B` at most two. -/
theorem Told.count_small (h : Told t1 t2 t3 cn r0 r1 r2 A B C) (r : ι) : cn r A ≤ 1 ∧ cn r B ≤ 2 := by
  have hAC := h.hAB.trans h.hBC
  rw [h.count _ _ hAC.le, h.count _ _ h.hBC.le]
  simp only [not_le.mpr h.hAB, not_le.mpr h.hBC, not_le.mpr hAC, and_false, if_false]
  constructor <;> split_ifs <;> omega

/-- The second is `B`. -/
theorem Told.second_eq (h : Told t1 t2 t3 cn r0 r1 r2 A B C) : second t1 t2 A = B := by
  classical
  have hAC := h.hAB.trans h.hBC
  have hB := h.hBC.trans h.hC
  have hA := hAC.trans h.hC
  have cA : cn r1 A = if r0 = r1 then 1 else 0 := by
    rw [h.count _ _ hAC.le]; simp [not_le.mpr h.hAB, not_le.mpr hAC]
  have cB : cn r1 B = (if r0 = r1 then 1 else 0) + 1 := by
    rw [h.count _ _ h.hBC.le]; simp [not_le.mpr h.hBC, h.hAB.le]
  refine le_antisymm ?_ (le_min (Finset.le_inf fun r _ => ?_) (Finset.le_inf fun r _ => ?_))
  · by_cases e : r0 = r1
    · exact (min_le_right _ _).trans ((Finset.inf_le (Finset.mem_univ r1)).trans
        ((h.le2 _ _ hB).mpr (by rw [cB, if_pos e])))
    · refine (min_le_left _ _).trans ((Finset.inf_le (Finset.mem_univ r1)).trans ?_)
      rw [if_neg (by rw [h.le1 _ _ hA, cA, if_neg e]; omega), h.le1 _ _ hB, cB]
      omega
  · split_ifs with hr
    · exact le_top
    · exact le_of_count hB (h.le1 r) h.hAB (h.count_le r).1 hr
  · refine le_of_count hB (h.le2 r) h.hAB (h.count_le r).1 ?_
    rw [h.le2 _ _ hA]
    have := (h.count_small r).1
    omega

/-- The third is `C`. -/
theorem Told.third_eq (h : Told t1 t2 t3 cn r0 r1 r2 A B C) : third t1 t2 t3 B = C := by
  classical
  have hB := h.hBC.trans h.hC
  have hAC := h.hAB.trans h.hBC
  have cC : cn r2 C = cn r2 B + 1 := by
    rw [h.count _ _ le_rfl, h.count _ _ h.hBC.le]; simp [not_le.mpr h.hBC, h.hAB.le, hAC.le, h.hBC.le]
  refine le_antisymm ?_ (le_min (le_min (Finset.le_inf fun r _ => ?_) (Finset.le_inf fun r _ => ?_))
    (Finset.le_inf fun r _ => ?_))
  · have hs := (h.count_small r2).2
    obtain hk | hk | hk : cn r2 B = 0 ∨ cn r2 B = 1 ∨ cn r2 B = 2 := by omega
    · refine (min_le_left _ _).trans ((min_le_left _ _).trans ((Finset.inf_le (Finset.mem_univ r2)).trans ?_))
      rw [if_neg (by rw [h.le1 _ _ hB, hk]; omega), h.le1 _ _ h.hC, cC]
      omega
    · refine (min_le_left _ _).trans ((min_le_right _ _).trans ((Finset.inf_le (Finset.mem_univ r2)).trans ?_))
      rw [if_neg (by rw [h.le2 _ _ hB, hk]; omega), h.le2 _ _ h.hC, cC, hk]
    · exact (min_le_right _ _).trans ((Finset.inf_le (Finset.mem_univ r2)).trans
        ((h.le3 _ _ h.hC).mpr (by rw [cC, hk])))
  · split_ifs with hr
    · exact le_top
    · exact le_of_count h.hC (h.le1 r) h.hBC (h.count_le r).2 hr
  · split_ifs with hr
    · exact le_top
    · exact le_of_count h.hC (h.le2 r) h.hBC (h.count_le r).2 hr
  · refine le_of_count h.hC (h.le3 r) h.hBC (h.count_le r).2 ?_
    rw [h.le3 _ _ hB]
    have := (h.count_small r).2
    omega

end classes

end Cert.Proof.Three
-- ==== Proof.Parts.lean ====
/-
  THE NETWORK'S ROUNDS. The printed body is cut into parts; the parts two to thirteen each let ten slabs of eight
  candidates enter the three kept arrays, and hand the next slab on. Here every one of those parts is recognised as ten
  rounds of one function (`enter`), and the rounds are read at an index as the scalar sweep of Three.lean.
-/
module

public import proofs.«01_k».proof.Proof.Gen.KernelIdeal.Skeleton
public import proofs.«01_k».proof.Proof.Three
public import Idealize.ShloMosaic.Lib.ValueIdx
public import Idealize.ShloMosaic.Lib.Pipeline.Value

@[expose] public section

noncomputable section

open Idealize.ShloMosaic Idealize.ShloMosaic.TcCoe Idealize.SL.Sem Idealize.ShloMosaic.ValueIdx Cert.KernelIdeal
  Cert.KernelIdeal.Gen

namespace Cert.Proof.Parts

/-- The distances of a block, one row per candidate. -/
abbrev D := Vec Ideal S1024x2048 .f32

/-- Eight candidates' worth of rows. -/
abbrev A := FVec Ideal S8x2048 .f32

/-- Column `n` of the distances, by the candidate's number. -/
def col (v : D) (n : Fin 2048) (s : ℕ) : EReal := if h : s < 1024 then v (ix2 ⟨s, h⟩ n) else ⊤

/-- Eight rows from row `8 k` on lie within the array. -/
theorem slabFits {k : ℕ} (h : k < 128) : S1024x2048.Slices ![8 * k, 0] S8x2048 := by
  refine ⟨rfl, fun a => ?_⟩
  fin_cases a
  · show 8 * k + 8 ≤ 1024; omega
  · show 0 + 2048 ≤ 2048; omega

/-- The `k`-th slab of eight candidates. -/
def slab (v : D) (k : ℕ) (h : k < 128) : A := extractStridedSlice S8x2048 ![8 * k, 0] v (slabFits h)

/-- A slab's entry is the column's at its candidate. -/
theorem slab_apply (v : D) (k : ℕ) (h : k < 128) (r : Fin 8) (n : Fin 2048) :
    slab v k h (ix2 r n) = col v n (8 * k + r) := by
  have hr : 8 * k + r.val < 1024 := by omega
  unfold col slab
  rw [dif_pos hr]
  refine extractStridedSlice_apply _ _ _ _ _ fun a => ?_
  fin_cases a
  · rfl
  · show n.val = 0 + n.val; omega

/-- One slab enters the three arrays kept. -/
def enter (t : A × A × A) (x : A) : A × A × A :=
  (minimumf t.1 x, minimumf t.2.1 (maximumf t.1 x), minimumf t.2.2 (maximumf t.2.1 (maximumf t.1 x)))

/-- `n` slabs from the `k`-th on enter one by one. -/
def rounds (v : D) (k : ℕ) (t : A × A × A) : (n : ℕ) → k + n ≤ 128 → A × A × A
  | 0, _ => t
  | n + 1, h => enter (rounds v k t n (by omega)) (slab v (k + n) (by omega))

/-- The three arrays are what the sweep has kept of every class after its candidates `0`, …, `k`. -/
def Kept (v : D) (k : ℕ) (t : A × A × A) : Prop :=
  ∀ (r : Fin 8) (n : Fin 2048),
    (t.1 (ix2 r n), t.2.1 (ix2 r n), t.2.2 (ix2 r n)) = Three.sweep (fun i => col v n (8 * i + r)) k

/-- A slab entered is a round of the sweep. -/
theorem Kept.enter {v : D} {k j : ℕ} {t : A × A × A} (h : Kept v k t) (hj : j < 128) (e : j = k + 1) :
    Kept v j (enter t (slab v j hj)) := by
  subst e
  intro r n
  show Three.step (t.1 (ix2 r n), t.2.1 (ix2 r n), t.2.2 (ix2 r n)) (slab v (k + 1) hj (ix2 r n)) = _
  rw [h r n, slab_apply]
  rfl

/-- So are several, one after the other. -/
theorem Kept.rounds {v : D} {k : ℕ} {t : A × A × A} (h : Kept v k t) :
    (n : ℕ) → (hn : k + 1 + n ≤ 128) → Kept v (k + n) (rounds v (k + 1) t n hn)
  | 0, _ => h
  | n + 1, hn => by
    have e := (Kept.rounds h n (by omega)).enter (j := k + 1 + n) (by omega) (by omega)
    have el : k + (n + 1) = k + 1 + n := by omega
    rw [el]
    exact e

/-- What one part hands the next: the three arrays kept, and the next slab. -/
abbrev St := A × A × A × A

/-- Ten rounds, the first with the slab handed on; then the next slab is cut. -/
def ten (v : D) (k : ℕ) (hk : k + 11 < 128) (s : St) : St :=
  let t := rounds v (k + 2) (enter (s.1, s.2.1, s.2.2.1) s.2.2.2) 9 (by omega)
  (t.1, t.2.1, t.2.2, slab v (k + 11) hk)

/-- The state between two parts is right: the arrays have kept the candidates up to `k`, and the slab handed on is the
    next one. -/
def Good (v : D) (k : ℕ) (s : St) : Prop := Kept v k (s.1, s.2.1, s.2.2.1) ∧ ∃ h, s.2.2.2 = slab v (k + 1) h

/-- Ten rounds keep it right. -/
theorem Good.ten {v : D} {k : ℕ} {s : St} (h : Good v k s) (hk : k + 11 < 128) : Good v (k + 10) (ten v k hk s) := by
  obtain ⟨h1, h2, h3⟩ := h
  refine ⟨?_, hk, rfl⟩
  have h4 := h1.enter h2 rfl
  rw [← h3] at h4
  exact h4.rounds 9 (by omega)

/-- The first part's state: four slabs cut, three of them entered after the first. -/
def part1 (v : D) : St := (k0_pay14 v, k0_pay16 v, k0_pay17 v, k0_pay18 v)

/-- Part 2 as the body prints it. -/
def part2 (v : D) (s : St) : St :=
  (k0_pay55 v s.1 s.2.2.2, k0_pay57 v s.1 s.2.1 s.2.2.2, k0_pay58 v s.1 s.2.1 s.2.2.1 s.2.2.2, k0_pay59 v)

/-- Part 3 as the body prints it. -/
def part3 (v : D) (s : St) : St :=
  (k0_pay96 v s.1 s.2.2.2, k0_pay98 v s.1 s.2.1 s.2.2.2, k0_pay99 v s.1 s.2.1 s.2.2.1 s.2.2.2, k0_pay100 v)

/-- Part 4 as the body prints it. -/
def part4 (v : D) (s : St) : St :=
  (k0_pay137 v s.1 s.2.2.2, k0_pay139 v s.1 s.2.1 s.2.2.2, k0_pay140 v s.1 s.2.1 s.2.2.1 s.2.2.2, k0_pay141 v)

/-- Part 5 as the body prints it. -/
def part5 (v : D) (s : St) : St :=
  (k0_pay178 v s.1 s.2.2.2, k0_pay180 v s.1 s.2.1 s.2.2.2, k0_pay181 v s.1 s.2.1 s.2.2.1 s.2.2.2, k0_pay182 v)

/-- Part 6 as the body prints it. -/
def part6 (v : D) (s : St) : St :=
  (k0_pay219 v s.1 s.2.2.2, k0_pay221 v s.1 s.2.1 s.2.2.2, k0_pay222 v s.1 s.2.1 s.2.2.1 s.2.2.2, k0_pay223 v)

/-- Part 7 as the body prints it. -/
def part7 (v : D) (s : St) : St :=
  (k0_pay260 v s.1 s.2.2.2, k0_pay262 v s.1 s.2.1 s.2.2.2, k0_pay263 v s.1 s.2.1 s.2.2.1 s.2.2.2, k0_pay264 v)

/-- Part 8 as the body prints it. -/
def part8 (v : D) (s : St) : St :=
  (k0_pay301 v s.1 s.2.2.2, k0_pay303 v s.1 s.2.1 s.2.2.2, k0_pay304 v s.1 s.2.1 s.2.2.1 s.2.2.2, k0_pay305 v)

/-- Part 9 as the body prints it. -/
def part9 (v : D) (s : St) : St :=
  (k0_pay342 v s.1 s.2.2.2, k0_pay344 v s.1 s.2.1 s.2.2.2, k0_pay345 v s.1 s.2.1 s.2.2.1 s.2.2.2, k0_pay346 v)

/-- Part 10 as the body prints it. -/
def part10 (v : D) (s : St) : St :=
  (k0_pay383 v s.1 s.2.2.2, k0_pay385 v s.1 s.2.1 s.2.2.2, k0_pay386 v s.1 s.2.1 s.2.2.1 s.2.2.2, k0_pay387 v)

/-- Part 11 as the body prints it. -/
def part11 (v : D) (s : St) : St :=
  (k0_pay424 v s.1 s.2.2.2, k0_pay426 v s.1 s.2.1 s.2.2.2, k0_pay427 v s.1 s.2.1 s.2.2.1 s.2.2.2, k0_pay428 v)

/-- Part 12 as the body prints it. -/
def part12 (v : D) (s : St) : St :=
  (k0_pay465 v s.1 s.2.2.2, k0_pay467 v s.1 s.2.1 s.2.2.2, k0_pay468 v s.1 s.2.1 s.2.2.1 s.2.2.2, k0_pay469 v)

/-- Part 13 as the body prints it. -/
def part13 (v : D) (s : St) : St :=
  (k0_pay506 v s.1 s.2.2.2, k0_pay508 v s.1 s.2.1 s.2.2.2, k0_pay509 v s.1 s.2.1 s.2.2.1 s.2.2.2, k0_pay510 v)

/-- Parts two to thirteen are ten rounds each. -/
theorem parts_eq (v : D) (s : St) :
    part2 v s = ten v 3 (by decide) s
      ∧ part3 v s = ten v 13 (by decide) s
      ∧ part4 v s = ten v 23 (by decide) s
      ∧ part5 v s = ten v 33 (by decide) s
      ∧ part6 v s = ten v 43 (by decide) s
      ∧ part7 v s = ten v 53 (by decide) s
      ∧ part8 v s = ten v 63 (by decide) s
      ∧ part9 v s = ten v 73 (by decide) s
      ∧ part10 v s = ten v 83 (by decide) s
      ∧ part11 v s = ten v 93 (by decide) s
      ∧ part12 v s = ten v 103 (by decide) s
      ∧ part13 v s = ten v 113 (by decide) s :=
  ⟨rfl, rfl, rfl, rfl, rfl, rfl, rfl, rfl, rfl, rfl, rfl, rfl⟩

/-- The state the last part of the network starts from. -/
def before (v : D) : St :=
  part13 v (part12 v (part11 v (part10 v (part9 v (part8 v (part7 v (part6 v (part5 v (part4 v (part3 v (part2 v (part1 v))))))))))))

end Cert.Proof.Parts

end
-- ==== Proof.Words.lean ====
/-
  THE LITERALS of the two programs, as extended reals.
-/
module

public import proofs.«01_k».proof.Proof.Gen.KernelIdeal.Skeleton
public import Idealize.ShloMosaic.Lib.IdealHost
public import Idealize.ShloMosaic.PureOps.IdealRules

@[expose] public section

noncomputable section

open Idealize.ShloMosaic

namespace Cert.Proof.Words

/-- The kernel's named constant "far" is plus infinity. -/
theorem far : Named.named (F := Ideal) Cert.KernelIdeal.κ "far" (φ := .f32) 0x7F61B1E6#32 = (⊤ : EReal) :=
  IdealRules.named_const.ideal_named_scalar _ _ _ _ rfl

/-- The word the minima start from is plus infinity. -/
theorem inf : Ideal.ofBits .f32 0x7F800000#32 = (⊤ : EReal) := by
  simp [Ideal.ofBits, Ideal.ieee]

/-- The factor of the mixed term is minus two. -/
theorem negTwo : Ideal.ofBits .f32 0xC0000000#32 = ((-2 : ℝ) : EReal) := by
  simp [Ideal.ofBits, Ideal.ieee, -EReal.coe_mul]; norm_num

/-- The small number added to a distance is a positive real. -/
theorem eps : ∃ e : ℝ, 0 < e ∧ Ideal.ofBits .f32 0x322BCC77#32 = (e : EReal) := by
  refine ⟨_, ?_, by simp [Ideal.ofBits, Ideal.ieee, -EReal.coe_mul]; rfl⟩
  norm_num

end Cert.Proof.Words

end
-- ==== Proof.Nearest.lean ====
/-
  THE KERNEL'S THREE THRESHOLDS. The network's last rounds and the minima over the eight classes, read at a column: when
  three candidates hold the three smallest, pairwise different, distances of the column and every other candidate is
  farther, the three rows of thresholds are those three distances.
-/
module

public import proofs.«01_k».proof.Proof.Parts
public import proofs.«01_k».proof.Proof.Words

@[expose] public section

noncomputable section

open Idealize.ShloMosaic Idealize.ShloMosaic.TcCoe Idealize.SL.Sem Idealize.ShloMosaic.ValueIdx Cert.KernelIdeal
  Cert.KernelIdeal.Gen

namespace Cert.Proof.Parts

/-- The first slab alone, beside infinities, has kept the candidate zero. -/
theorem kept_zero (v : D) : Kept v 0 (slab v 0 (by decide), k0_pay4 (F := Ideal), k0_pay4 (F := Ideal)) := by
  intro r n
  have h : k0_pay4 (F := Ideal) (ix2 r n) = (⊤ : EReal) := Words.far
  have h0 := slab_apply v 0 (by decide) r n
  exact congrArg₂ Prod.mk h0 (congrArg₂ Prod.mk h h)

/-- Part one is three rounds. -/
theorem part1_eq (v : D) :
    part1 v = (let t := rounds v 1 (slab v 0 (by decide), k0_pay4 (F := Ideal), k0_pay4 (F := Ideal)) 3 (by decide)
      (t.1, t.2.1, t.2.2, slab v 4 (by decide))) := rfl

/-- After part one the first four candidates of every class are kept. -/
theorem good_part1 (v : D) : Good v 3 (part1 v) := by
  rw [part1_eq]
  exact ⟨(kept_zero v).rounds 3 (by decide), by decide, rfl⟩

/-- A part that is ten rounds keeps the state right. -/
theorem Good.via {v : D} {k : ℕ} {s s' : St} {hk : k + 11 < 128} (h : Good v k s) (e : s' = Parts.ten v k hk s) :
    Good v (k + 10) s' := e ▸ h.ten hk

/-- Before the last part all but the last four are. -/
theorem good_before (v : D) : Good v 123 (before v) := by
  unfold before
  have g1 := good_part1 v
  have g2 := g1.via (parts_eq v _).1
  have g3 := g2.via (parts_eq v _).2.1
  have g4 := g3.via (parts_eq v _).2.2.1
  have g5 := g4.via (parts_eq v _).2.2.2.1
  have g6 := g5.via (parts_eq v _).2.2.2.2.1
  have g7 := g6.via (parts_eq v _).2.2.2.2.2.1
  have g8 := g7.via (parts_eq v _).2.2.2.2.2.2.1
  have g9 := g8.via (parts_eq v _).2.2.2.2.2.2.2.1
  have g10 := g9.via (parts_eq v _).2.2.2.2.2.2.2.2.1
  have g11 := g10.via (parts_eq v _).2.2.2.2.2.2.2.2.2.1
  have g12 := g11.via (parts_eq v _).2.2.2.2.2.2.2.2.2.2.1
  have g13 := g12.via (parts_eq v _).2.2.2.2.2.2.2.2.2.2.2
  exact g13

/-- The last four rounds. -/
def last (v : D) (s : St) : A × A × A := rounds v 125 (enter (s.1, s.2.1, s.2.2.1) s.2.2.2) 3 (by decide)

/-- After them every candidate has entered. -/
theorem kept_last (v : D) : Kept v 127 (last v (before v)) := by
  obtain ⟨h1, h2, h3⟩ := good_before v
  have h4 := h1.enter h2 rfl
  rw [← h3] at h4
  exact h4.rounds 3 (by decide)

/-- A row of the least entries of eight rows. -/
def mins (x : A) : FVec Ideal S1x2048 .f32 :=
  shapeCast S1x2048 (multiReduction .minimumf [0] S2048 x 0x7F800000#32 reduces_S8x2048_S2048 (.inl rfl) rfl)
    shapeCasts_S2048_S1x2048

/-- Eight rows, with infinity where an entry is at most the row `w`'s. -/
def above (x : A) (w : FVec Ideal S1x2048 .f32) : A :=
  select (cmpf .ole x (broadcastTo S8x2048 w broadcasts_S1x2048_S8x2048)) (k0_pay4 (F := Ideal)) x

/-- The least of eight entries. -/
theorem mins_apply (x : A) (n : Fin 2048) : mins x (ix2 0 n) = Finset.univ.inf fun r : Fin 8 => x (ix2 r n) := by
  refine (shapeCast_apply _ _ _ (ix1 n) ?_).trans ((multiReduction_minimumf_eq_fold _ _ _ _ _ _).trans
    ((Shape.Reduces.fold_filter_drop_single _ _ _ _ _).trans ?_))
  · simp [Shape.rowMajor_val_one, Shape.rowMajor_val_two, ix1, ix2]
  · show Finset.fold min (Ideal.ofBits .f32 0x7F800000#32) _ _ = _
    rw [Words.inf]
    refine Finset.fold_congr fun r _ => ?_
    refine congrArg x (Shape.idx_ext₂ ?_ ?_) <;> rfl

/-- An entry kept only above the row's. -/
theorem above_apply (x : A) (w : FVec Ideal S1x2048 .f32) (r : Fin 8) (n : Fin 2048) (o : EReal)
    (h : w (ix2 0 n) = o) [Decidable (x (ix2 r n) ≤ o)] :
    above x w (ix2 r n) = if x (ix2 r n) ≤ o then ⊤ else x (ix2 r n) := by
  have hb : broadcastTo S8x2048 w broadcasts_S1x2048_S8x2048 (ix2 r n) = o := by
    rw [← h]
    exact broadcastTo_apply _ _ _ _ fun a => by fin_cases a <;> rfl
  unfold above
  rw [select_apply, cmpf_apply, hb]
  show Scalar.select (Ideal.cmp .ole (x (ix2 r n)) o) _ _ = _
  by_cases hx : x (ix2 r n) ≤ o
  · have e : Ideal.cmp .ole (x (ix2 r n)) o = 1#1 := by simp [Ideal.cmp, hx]
    rw [if_pos hx, e]; exact Words.far
  · have e : Ideal.cmp .ole (x (ix2 r n)) o = 0#1 := by simp [Ideal.cmp, hx]
    rw [if_neg hx, e]; rfl

/-- The three rows of thresholds, from the three arrays kept. -/
def row1 (t : A × A × A) : FVec Ideal S1x2048 .f32 := mins t.1
/-- The second. -/
def row2 (t : A × A × A) : FVec Ideal S1x2048 .f32 := minimumf (mins (above t.1 (row1 t))) (mins t.2.1)
/-- The third. -/
def row3 (t : A × A × A) : FVec Ideal S1x2048 .f32 :=
  minimumf (minimumf (mins (above t.1 (row2 t))) (mins (above t.2.1 (row2 t)))) (mins t.2.2)

/-- They are the printed body's. -/
theorem rows_eq (v : D) (s : St) :
    k0_pay526 v s.1 s.2.2.2 = row1 (last v s) ∧ k0_pay527 v s.1 s.2.1 s.2.2.2 = row2 (last v s)
      ∧ k0_pay528 v s.1 s.2.1 s.2.2.1 s.2.2.2 = row3 (last v s) := ⟨rfl, rfl, rfl⟩

section thresholds

variable (v : D) (n : Fin 2048)

/-- What a class has kept in the end. -/
def kept (r : Fin 8) : EReal × EReal × EReal := Three.sweep (fun i => col v n (8 * i + r)) 127

/-- The thresholds read at a column. -/
theorem rows_apply :
    row1 (last v (before v)) (ix2 0 n) = Three.first (fun r => (kept v n r).1)
      ∧ row2 (last v (before v)) (ix2 0 n) = Three.second (fun r => (kept v n r).1) (fun r => (kept v n r).2.1)
          (Three.first fun r => (kept v n r).1)
      ∧ row3 (last v (before v)) (ix2 0 n) = Three.third (fun r => (kept v n r).1) (fun r => (kept v n r).2.1)
          (fun r => (kept v n r).2.2) (Three.second (fun r => (kept v n r).1) (fun r => (kept v n r).2.1)
            (Three.first fun r => (kept v n r).1)) := by
  classical
  have h := fun r => kept_last v r n
  generalize last v (before v) = t at h
  have h1 : ∀ r, t.1 (ix2 r n) = (kept v n r).1 := fun r => congrArg Prod.fst (h r)
  have h2 : ∀ r, t.2.1 (ix2 r n) = (kept v n r).2.1 := fun r => congrArg (fun p => p.2.1) (h r)
  have h3 : ∀ r, t.2.2 (ix2 r n) = (kept v n r).2.2 := fun r => congrArg (fun p => p.2.2) (h r)
  have e1 : row1 t (ix2 0 n) = Three.first (fun r => (kept v n r).1) := by
    unfold row1 Three.first
    rw [mins_apply]; simp only [h1]
  have e2 : row2 t (ix2 0 n) = Three.second (fun r => (kept v n r).1) (fun r => (kept v n r).2.1)
      (Three.first fun r => (kept v n r).1) := by
    unfold row2 Three.second
    rw [minimumf_apply, mins_apply, mins_apply]
    simp only [above_apply _ _ _ _ _ e1, h1, h2]
  refine ⟨e1, e2, ?_⟩
  unfold row3 Three.third
  rw [minimumf_apply, minimumf_apply, mins_apply, mins_apply, mins_apply]
  simp only [above_apply _ _ _ _ _ e2, h1, h2, h3]

/-- What is assumed of a column: three candidates hold three growing distances, finite, and every candidate within the
    third is one of them. -/
structure Three3 (A B C : EReal) (c0 c1 c2 : Fin 1024) : Prop where
  hAB : A < B
  hBC : B < C
  hC : C < ⊤
  h0 : v (ix2 c0 n) = A
  h1 : v (ix2 c1 n) = B
  h2 : v (ix2 c2 n) = C
  only : ∀ s, v (ix2 s n) ≤ C → s = c0 ∨ s = c1 ∨ s = c2

variable {v n} {A B C : EReal} {c0 c1 c2 : Fin 1024}

/-- The class of a candidate. -/
def cls (c : Fin 1024) : Fin 8 := ⟨c.val % 8, Nat.mod_lt _ (by decide)⟩

/-- The numbers of a class that are one candidate's: one if it is of the class, none otherwise. -/
theorem card_class (c : Fin 1024) (r : Fin 8) (p : Prop) [Decidable p] :
    (∑ i ∈ Finset.range 128, if 8 * i + r.val = c.val ∧ p then 1 else 0 : ℕ) = if cls c = r ∧ p then 1 else 0 := by
  by_cases hp : p
  · simp only [hp, and_true]
    by_cases hr : cls c = r
    · have hr' : c.val % 8 = r.val := congrArg Fin.val hr
      rw [if_pos hr, Finset.sum_eq_single_of_mem (c.val / 8) (by simp; omega)]
      · rw [if_pos (by omega)]
      · intro i _ hi; rw [if_neg (by omega)]
    · have hr' : ¬ c.val % 8 = r.val := fun e => hr (Fin.ext e)
      rw [if_neg hr]
      exact Finset.sum_eq_zero fun i _ => if_neg (by omega)
  · simp [hp]

open Classical in
/-- A candidate's distance is within a bound up to the third exactly when it is one of the three and that one's is. -/
theorem Three3.ite (h : Three3 v n A B C c0 c1 c2) (y : EReal) (hy : y ≤ C) (s : ℕ) (hs : s < 1024) :
    (if col v n s ≤ y then 1 else 0 : ℕ) = (if s = c0.val ∧ A ≤ y then 1 else 0) + (if s = c1.val ∧ B ≤ y then 1 else 0)
      + (if s = c2.val ∧ C ≤ y then 1 else 0) := by
  have ne : ∀ {a b : Fin 1024} {x z : EReal}, v (ix2 a n) = x → v (ix2 b n) = z → x < z → a.val ≠ b.val :=
    fun ha hb hlt e => hlt.ne (by rw [← ha, ← hb, Fin.ext e])
  have n01 := ne h.h0 h.h1 h.hAB
  have n12 := ne h.h1 h.h2 h.hBC
  have n02 := ne h.h0 h.h2 (h.hAB.trans h.hBC)
  have e : col v n s = v (ix2 ⟨s, hs⟩ n) := dif_pos hs
  by_cases k0 : s = c0.val
  · have : col v n s = A := e.trans ((congrArg (fun c => v (ix2 c n)) (Fin.ext k0)).trans h.h0)
    simp [k0, n01, n02, ← this]
  by_cases k1 : s = c1.val
  · have : col v n s = B := e.trans ((congrArg (fun c => v (ix2 c n)) (Fin.ext k1)).trans h.h1)
    simp [k1, n01.symm, n12, ← this]
  by_cases k2 : s = c2.val
  · have : col v n s = C := e.trans ((congrArg (fun c => v (ix2 c n)) (Fin.ext k2)).trans h.h2)
    simp [k2, n02.symm, n12.symm, ← this]
  · have : ¬ col v n s ≤ y := fun hle => by
      rw [e] at hle
      rcases h.only _ (hle.trans hy) with q | q | q
      · exact k0 (congrArg Fin.val q)
      · exact k1 (congrArg Fin.val q)
      · exact k2 (congrArg Fin.val q)
    simp [k0, k1, k2, this]

/-- So the classes' counts are the three candidates'. -/
theorem Three3.told (h : Three3 v n A B C c0 c1 c2) :
    Three.Told (fun r => (kept v n r).1) (fun r => (kept v n r).2.1) (fun r => (kept v n r).2.2)
      (fun r y => Three.cnt (fun i => col v n (8 * i + r)) 128 y) (cls c0) (cls c1) (cls c2) A B C where
  le1 r y hy := (Three.sweep_le_iff _ 127 y hy).1
  le2 r y hy := (Three.sweep_le_iff _ 127 y hy).2.1
  le3 r y hy := (Three.sweep_le_iff _ 127 y hy).2.2
  count r y hy := by
    classical
    unfold Three.cnt
    rw [Nat.count_eq_card_filter_range, Finset.card_filter,
      Finset.sum_congr rfl fun i hi => h.ite y hy (8 * i + r.val) (by have := Finset.mem_range.mp hi; omega),
      Finset.sum_add_distrib, Finset.sum_add_distrib, card_class, card_class, card_class]
    congr
  hAB := h.hAB
  hBC := h.hBC
  hC := h.hC

/-- THE THRESHOLDS are the three smallest distances. -/
theorem Three3.rows (h : Three3 v n A B C c0 c1 c2) :
    row1 (last v (before v)) (ix2 0 n) = A ∧ row2 (last v (before v)) (ix2 0 n) = B
      ∧ row3 (last v (before v)) (ix2 0 n) = C := by
  obtain ⟨e1, e2, e3⟩ := rows_apply v n
  have t1 := h.told.first_eq
  have t2 := h.told.second_eq
  have t3 := h.told.third_eq
  rw [e1, e2, e3, t1, t2, t3]
  exact ⟨rfl, rfl, rfl⟩

end thresholds

end Cert.Proof.Parts

end
-- ==== Proof.Block.lean ====
/-
  ONE BLOCK OF THE KERNEL: what the body leaves in its result block, as the printed operations of the input blocks
  (`block`, `out_eq`), and that block read at an index (`block_apply`) where the three thresholds are known.
-/
module

public import proofs.«01_k».proof.Proof.Nearest
public import proofs.«01_k».proof.Proof.Gen.KernelIdeal.Frame
public import Idealize.ShloMosaic.Lib.MatmulPlain
public import Idealize.ShloMosaic.Lib.IdealHost

@[expose] public section

noncomputable section

open Idealize.ShloMosaic Idealize.ShloMosaic.TcCoe Idealize.SL.Sem Idealize.ShloMosaic.ValueIdx Cert.KernelIdeal
  Cert.KernelIdeal.Gen

namespace Cert.Proof

/-! ## The mathematics of one column -/

/-- A distance's inverse weight before it is normalised. -/
def inv (x : EReal) : EReal := Ideal.div 1 (x + Ideal.ofBits .f32 0x322BCC77#32)

/-- The first layer before its rectifier: the column's own features and the interpolated ones, each under its half of the
    weights. -/
def mix (p it : Fin 256 → EReal) (wa wb : Fin 256 → Fin 256 → EReal) (b : Fin 256 → EReal) (o : Fin 256) : EReal :=
  (∑ k, wa o k * p k + ∑ k, wb o k * it k) + b o

/-- The rectifier, the second layer and its rectifier. -/
def tail (g : Fin 256 → EReal) (w : Fin 256 → Fin 256 → EReal) (b : Fin 256 → EReal) (o : Fin 256) : EReal :=
  max (∑ k, w o k * max (g k) 0 + b o) 0

open Classical in
/-- The features interpolated by a weight on every candidate: the candidates within the distance `C` weigh by their own
    distance, normalised over the three distances `A`, `B`, `C`. -/
def interp (f : Fin 1024 → EReal) (d : Fin 1024 → EReal) (A B C : EReal) : EReal :=
  ∑ s, f s * if d s ≤ C then inv (d s) * Ideal.div 1 ((inv A + inv B) + inv C) else 0

namespace Block

/-! ## The printed block -/

/-- The result block, from the input blocks. -/
def block (x0 : Vec Ideal S1x3x2048 .f32) (x1 : Vec Ideal S1x1024x3 .f32) (x2 : Vec Ideal S1x256x2048 .f32)
    (x3 : Vec Ideal S1x256x1024 .f32) (x4 x5 : Vec Ideal S256x256 .f32) (x6 : Vec Ideal S256x1 .f32)
    (x7 : Vec Ideal S256x256 .f32) (x8 : Vec Ideal S256x1 .f32) : Vec Ideal S1x256x2048 .f32 :=
  let v := k0_pay2 x0 x1
  let s := Parts.before v
  k0_pay1 (k0_pay529 v (k0_pay526 v s.1 s.2.2.2) (k0_pay527 v s.1 s.2.1 s.2.2.2)
    (k0_pay528 v s.1 s.2.1 s.2.2.1 s.2.2.2) (Scalar.ofBits .f32 0x322BCC77#32) x3 x2 x4 x5 x6) (k0_pay530 (F := Ideal))
    x7 x8

theorem hz2 : (![0, 0] : Fin 2 → Nat) = fun _ => 0 := funext fun a => by fin_cases a <;> rfl

theorem hz3 : (![0, 0, 0] : Fin 3 → Nat) = fun _ => 0 := funext fun a => by fin_cases a <;> rfl

/-- The block the run leaves is that one. -/
theorem out_eq (c : Dev nD) (i : grid0.Coords) (arg2 : Memref sig .tc .vmem S1x3x2048 .f32) (harg2 : arg2.IsWhole)
    (arg3 : Memref sig .tc .vmem S1x1024x3 .f32) (harg3 : arg3.IsWhole)
    (arg4 : Memref sig .tc .vmem S1x256x2048 .f32) (harg4 : arg4.IsWhole)
    (arg5 : Memref sig .tc .vmem S1x256x1024 .f32) (harg5 : arg5.IsWhole)
    (arg6 : Memref sig .tc .vmem S256x256 .f32) (harg6 : arg6.IsWhole)
    (arg7 : Memref sig .tc .vmem S256x256 .f32) (harg7 : arg7.IsWhole)
    (arg8 : Memref sig .tc .vmem S256x1 .f32) (harg8 : arg8.IsWhole)
    (arg9 : Memref sig .tc .vmem S256x256 .f32) (harg9 : arg9.IsWhole)
    (arg10 : Memref sig .tc .vmem S256x1 .f32) (harg10 : arg10.IsWhole)
    (arg11 : Memref sig .tc .vmem S1x256x2048 .f32) (harg11 : arg11.IsWhole)
    (arg12 : Memref sig .tc .vmem S1024x2048 .f32) (harg12 : arg12.IsWhole)
    (x0 : Vec Ideal S1x3x2048 .f32) (x1 : Vec Ideal S1x1024x3 .f32) (x2 : Vec Ideal S1x256x2048 .f32)
    (x3 : Vec Ideal S1x256x1024 .f32) (x4 x5 : Vec Ideal S256x256 .f32) (x6 : Vec Ideal S256x1 .f32)
    (x7 : Vec Ideal S256x256 .f32) (x8 : Vec Ideal S256x1 .f32) :
    out0_A_9 c i arg2 harg2 arg3 harg3 arg4 harg4 arg5 harg5 arg6 harg6 arg7 harg7 arg8 harg8 arg9 harg9 arg10 harg10
      arg11 harg11 arg12 harg12 x0 x1 x2 x3 x4 x5 x6 x7 x8 = block x0 x1 x2 x3 x4 x5 x6 x7 x8 := by
  unfold out0_A_9
  rw [View.read_writes_eq_canon _ _ _ (cover0_A_9 c i arg2 harg2 arg3 harg3 arg4 harg4 arg5 harg5 arg6 harg6 arg7 harg7
    arg8 harg8 arg9 harg9 arg10 harg10 arg11 harg11 arg12 harg12 x0 x1 x2 x3 x4 x5 x6 x7 x8)]
  unfold kernelRun0_A
  dsimp only
  sl_unfold_words
  rw [View.canon_unit_zero hz3]
  simp only [View.readCov_unit_zero (S := S1024x2048) _ hz2, View.readAt_eq_ld, harg2.read_unread, harg3.read_unread,
    harg4.read_unread, harg5.read_unread, harg6.read_unread, harg7.read_unread, harg8.read_unread, harg9.read_unread,
    harg10.read_unread, View.ld_unit_zero (S := S1x3x2048) hz3, View.ld_unit_zero (S := S1x1024x3) hz3,
    View.ld_unit_zero (S := S1x256x2048) hz3, View.ld_unit_zero (S := S1x256x1024) hz3,
    View.ld_unit_zero (S := S256x256) hz2, View.ld_unit_zero (S := S256x1) hz2]
  rfl

/-! ## Read at an index -/

/-- A product of two matrices on a zero accumulator. -/
theorem mm {M K N : ℕ} (D : DotDims ⟨2, ![M, K]⟩ ⟨2, ![K, N]⟩ ⟨2, ![M, N]⟩) (hD : D = DotDims.plain M K N)
    (a : FVec Ideal ⟨2, ![M, K]⟩ .f32) (b : FVec Ideal ⟨2, ![K, N]⟩ .f32) (r : Fin M) (c : Fin N) :
    matmul D none a b (constant ⟨2, ![M, N]⟩ .f32 0x00000000#32) (ix2 r c) = ∑ k, a (ix2 r k) * b (ix2 k c) := by
  subst hD
  refine (Ideal.matmul_plain_apply none a b _ r c).trans ?_
  show Ideal.ofBits .f32 0x00000000#32 + _ = _
  rw [Ideal.ofBits_zero_f32, zero_add]

/-- A leading unit axis dropped. -/
theorem drop1 {M N : ℕ} {α : Type} (x : (⟨3, ![1, M, N]⟩ : Shape).Idx → α)
    (h : (⟨3, ![1, M, N]⟩ : Shape).ShapeCasts ⟨2, ![M, N]⟩) (r : Fin M) (c : Fin N) :
    shapeCast ⟨2, ![M, N]⟩ x h (ix2 r c) = x (ix3 0 r c) :=
  shapeCast_apply _ _ _ _ (by
    rw [Shape.rowMajor_val_two, Shape.rowMajor_val_three]
    show (0 * M + r.val) * N + c.val = r.val * N + c.val
    rw [zero_mul, zero_add])

/-- A leading unit axis added. -/
theorem add1 {M N : ℕ} {α : Type} (x : (⟨2, ![M, N]⟩ : Shape).Idx → α)
    (h : (⟨2, ![M, N]⟩ : Shape).ShapeCasts ⟨3, ![1, M, N]⟩) (r : Fin M) (c : Fin N) :
    shapeCast ⟨3, ![1, M, N]⟩ x h (ix3 0 r c) = x (ix2 r c) :=
  shapeCast_apply _ _ _ _ (by
    rw [Shape.rowMajor_val_two, Shape.rowMajor_val_three]
    show r.val * N + c.val = (0 * M + r.val) * N + c.val
    rw [zero_mul, zero_add])

/-- A row given to every row. -/
theorem rowB (x : Vec Ideal S1x2048 .f32) (s : Fin 1024) (q : Fin 2048) :
    broadcastTo S1024x2048 x broadcasts_S1x2048_S1024x2048 (ix2 s q) = x (ix2 0 q) :=
  broadcastTo_apply _ _ _ _ fun a => by fin_cases a <;> rfl

/-- A column given to every column. -/
theorem colB (x : Vec Ideal S256x1 .f32) (o : Fin 256) (q : Fin 2048) :
    broadcastTo S256x2048 x broadcasts_S256x1_S256x2048 (ix2 o q) = x (ix2 o 0) :=
  broadcastTo_apply _ _ _ _ fun a => by fin_cases a <;> rfl

/-- The comparison's choice. -/
theorem choose (a b x y : EReal) [Decidable (a ≤ b)] :
    Scalar.select (Ideal.cmp .ole a b) x y = if a ≤ b then x else y := by
  by_cases h : a ≤ b
  · have e : Ideal.cmp .ole a b = 1#1 := by simp [Ideal.cmp, h]
    rw [if_pos h, e]; rfl
  · have e : Ideal.cmp .ole a b = 0#1 := by simp [Ideal.cmp, h]
    rw [if_neg h, e]; rfl

/-- The weight of every candidate for every query, from the distances and the rows of thresholds. -/
def weights (v : FVec Ideal S1024x2048 .f32) (r1 r2 r3 : FVec Ideal S1x2048 .f32) : FVec Ideal S1024x2048 .f32 :=
  select (cmpf .ole v (broadcastTo S1024x2048 r3 broadcasts_S1x2048_S1024x2048))
    (mulf (reciprocal true (addf v (broadcast S1024x2048 (Scalar.ofBits .f32 0x322BCC77#32))))
      (broadcastTo S1024x2048 (divf (broadcast S1x2048 (Scalar.ofBits .f32 0x3F800000#32))
        (addf (addf (reciprocal true (addf r1 (broadcast S1x2048 (Scalar.ofBits .f32 0x322BCC77#32))))
          (reciprocal true (addf r2 (broadcast S1x2048 (Scalar.ofBits .f32 0x322BCC77#32)))))
          (reciprocal true (addf r3 (broadcast S1x2048 (Scalar.ofBits .f32 0x322BCC77#32))))))
        broadcasts_S1x2048_S1024x2048))
    (broadcast S1024x2048 (Scalar.ofBits .f32 0x00000000#32))

open Classical in
/-- A weight at an index. -/
theorem weights_apply (v : FVec Ideal S1024x2048 .f32) (r1 r2 r3 : FVec Ideal S1x2048 .f32) (s : Fin 1024) (q : Fin 2048) :
    weights v r1 r2 r3 (ix2 s q)
      = if v (ix2 s q) ≤ r3 (ix2 0 q) then
          inv (v (ix2 s q)) * Ideal.div 1 ((inv (r1 (ix2 0 q)) + inv (r2 (ix2 0 q))) + inv (r3 (ix2 0 q)))
        else 0 := by
  unfold weights
  rw [select_apply, cmpf_apply, mulf_apply, rowB, rowB]
  refine (choose _ _ _ _).trans ?_
  have h1 : Scalar.ofBits (F := Ideal) .f32 0x3F800000#32 = (1 : EReal) := Ideal.ofBits_one_f32
  have h0 : Scalar.ofBits (F := Ideal) .f32 0x00000000#32 = (0 : EReal) := Ideal.ofBits_zero_f32
  rw [h1, h0]
  rfl

/-- The first layer, before the rectifier, is the two products and the bias. -/
theorem layer1 (v : FVec Ideal S1024x2048 .f32) (r1 r2 r3 : FVec Ideal S1x2048 .f32) (x3 : Vec Ideal S1x256x1024 .f32)
    (x2 : Vec Ideal S1x256x2048 .f32) (x4 x5 : Vec Ideal S256x256 .f32) (x6 : Vec Ideal S256x1 .f32) (o : Fin 256)
    (q : Fin 2048) :
    k0_pay529 v r1 r2 r3 (Scalar.ofBits .f32 0x322BCC77#32) x3 x2 x4 x5 x6 (ix2 o q)
      = mix (fun k => x2 (ix3 0 k q)) (fun k => ∑ s, x3 (ix3 0 k s) * weights v r1 r2 r3 (ix2 s q))
          (fun o k => x4 (ix2 o k)) (fun o k => x5 (ix2 o k)) (fun o => x6 (ix2 o 0)) o := by
  unfold k0_pay529
  rw [addf_apply, addf_apply, mm dot_S256x256_S256x2048_S256x2048_1_0_0_1_n_n rfl,
    mm dot_S256x256_S256x2048_S256x2048_1_0_0_1_n_n rfl, colB, shapeCast_self, shapeCast_self, shapeCast_self]
  unfold mix
  refine congrArg₂ (fun a b => a + b + x6 (ix2 o 0)) (Finset.sum_congr rfl fun k _ => ?_) (Finset.sum_congr rfl fun k _ => ?_)
  · rw [drop1]
  · rw [mm dot_S256x1024_S1024x2048_S256x2048_1_0_0_1_n_n rfl]
    refine congrArg (x5 (ix2 o k) * ·) (Finset.sum_congr rfl fun s _ => ?_)
    rw [drop1]
    rfl

/-- The rest of the body. -/
theorem layer2 (g : Vec Ideal S256x2048 .f32) (x7 : Vec Ideal S256x256 .f32) (x8 : Vec Ideal S256x1 .f32) (o : Fin 256)
    (q : Fin 2048) :
    k0_pay1 g (k0_pay530 (F := Ideal)) x7 x8 (ix3 0 o q)
      = tail (fun k => g (ix2 k q)) (fun o k => x7 (ix2 o k)) (fun o => x8 (ix2 o 0)) o := by
  have h0 : Scalar.ofBits (F := Ideal) .f32 0x00000000#32 = (0 : EReal) := Ideal.ofBits_zero_f32
  unfold k0_pay1
  rw [add1, maximumf_apply, addf_apply, mm dot_S256x256_S256x2048_S256x2048_1_0_0_1_n_n rfl, colB,
    shapeCast_self, broadcast_apply, h0]
  unfold tail
  refine congrArg (fun a => max (a + x8 (ix2 o 0)) 0) (Finset.sum_congr rfl fun k _ => ?_)
  rw [maximumf_apply]
  unfold k0_pay530
  dsimp only
  rw [broadcast_apply, h0]

/-- THE BLOCK AT AN INDEX, where the three smallest distances of its column are known. -/
theorem block_apply (x0 : Vec Ideal S1x3x2048 .f32) (x1 : Vec Ideal S1x1024x3 .f32) (x2 : Vec Ideal S1x256x2048 .f32)
    (x3 : Vec Ideal S1x256x1024 .f32) (x4 x5 : Vec Ideal S256x256 .f32) (x6 : Vec Ideal S256x1 .f32)
    (x7 : Vec Ideal S256x256 .f32) (x8 : Vec Ideal S256x1 .f32) (o : Fin 256) (q : Fin 2048) {A B C : EReal}
    {c0 c1 c2 : Fin 1024} (h : Parts.Three3 (k0_pay2 x0 x1) q A B C c0 c1 c2) :
    block x0 x1 x2 x3 x4 x5 x6 x7 x8 (ix3 0 o q)
      = tail (mix (fun k => x2 (ix3 0 k q))
            (fun k => interp (fun s => x3 (ix3 0 k s)) (fun s => k0_pay2 x0 x1 (ix2 s q)) A B C)
            (fun o k => x4 (ix2 o k)) (fun o k => x5 (ix2 o k)) (fun o => x6 (ix2 o 0)))
          (fun o k => x7 (ix2 o k)) (fun o => x8 (ix2 o 0)) o := by
  unfold block
  obtain ⟨e1, e2, e3⟩ := Parts.rows_eq (k0_pay2 x0 x1) (Parts.before (k0_pay2 x0 x1))
  obtain ⟨f1, f2, f3⟩ := h.rows
  rw [e1, e2, e3, layer2]
  refine congrArg (fun g => tail g _ _ o) (funext fun k => ?_)
  rw [layer1]
  refine congrArg (fun g => mix _ g _ _ _ k) (funext fun j => ?_)
  unfold interp
  refine Finset.sum_congr rfl fun s _ => ?_
  rw [weights_apply, f1, f2, f3]

end Block

end Cert.Proof

end
-- ==== Proof.Whole.lean ====
/-
  THE KERNEL'S RESULT: each input block as entries of the arguments, the block of distances read at an index, and the
  result array read at an index where the column's three thresholds are known.
-/
module

public import proofs.«01_k».proof.Proof.Block
public import proofs.«01_k».proof.Proof.Gen.KernelIdeal.Value

@[expose] public section

noncomputable section

open Idealize.ShloMosaic Idealize.ShloMosaic.TcCoe Idealize.SL.Sem Idealize.ShloMosaic.ValueIdx Cert.KernelIdeal
  Cert.KernelIdeal.Gen

namespace Cert.Proof.Whole

/-! ## The distances -/

/-- A query's distance to a candidate, in the kernel's order of operations: the factor minus two on the query's
    coordinates. -/
def near (x y : Fin 3 → EReal) : EReal :=
  (∑ k, y k * (Ideal.ofBits .f32 0xC0000000#32 * x k) + ∑ k, x k * x k) + ∑ k, y k * y k

/-- A column given to every column. -/
theorem colB (x : Vec Ideal S1024x1 .f32) (s : Fin 1024) (q : Fin 2048) :
    broadcastTo S1024x2048 x broadcasts_S1024x1_S1024x2048 (ix2 s q) = x (ix2 s 0) :=
  broadcastTo_apply _ _ _ _ fun a => by fin_cases a <;> rfl

/-- The sum over the first axis, as a row. -/
theorem sumRow (x : FVec Ideal S3x2048 .f32) (q : Fin 2048) :
    shapeCast S1x2048 (multiReduction .add [0] S2048 x 0x00000000#32 reduces_S3x2048_S2048 (.inl rfl) rfl)
      shapeCasts_S2048_S1x2048 (ix2 0 q) = ∑ k : Fin 3, x (ix2 k q) := by
  rw [shapeCast_apply _ _ _ (ix1 q) (by
    rw [Shape.rowMajor_val_one, Shape.rowMajor_val_two]
    show q.val = 0 * 2048 + q.val
    rw [zero_mul, zero_add])]
  refine (Ideal.multiReduction_add_single _ _ _ _ _ _).trans (Finset.sum_congr rfl fun k _ => congrArg x ?_)
  funext a; fin_cases a <;> rfl

/-- The sum over the second axis, as a column. -/
theorem sumCol (x : FVec Ideal S1024x3 .f32) (s : Fin 1024) :
    shapeCast S1024x1 (multiReduction .add [1] S1024 x 0x00000000#32 reduces_S1024x3_S1024 (.inl rfl) rfl)
      shapeCasts_S1024_S1024x1 (ix2 s 0) = ∑ k : Fin 3, x (ix2 s k) := by
  rw [shapeCast_apply _ _ _ (ix1 s) (by
    rw [Shape.rowMajor_val_one, Shape.rowMajor_val_two]
    show s.val = s.val * 1 + 0
    rw [mul_one, add_zero])]
  refine (Ideal.multiReduction_add_single _ _ _ _ _ _).trans (Finset.sum_congr rfl fun k _ => congrArg x ?_)
  funext a; fin_cases a <;> rfl

/-- THE BLOCK OF DISTANCES AT AN INDEX. -/
theorem near_apply (x0 : Vec Ideal S1x3x2048 .f32) (x1 : Vec Ideal S1x1024x3 .f32) (s : Fin 1024) (q : Fin 2048) :
    k0_pay2 x0 x1 (ix2 s q) = near (fun k => x0 (ix3 0 k q)) (fun k => x1 (ix3 0 s k)) := by
  unfold k0_pay2
  rw [shapeCast_self, addf_apply, addf_apply, Block.rowB, colB, sumRow, sumCol,
    Block.mm dot_S1024x3_S3x2048_S1024x2048_1_0_0_1_n_n rfl]
  unfold near
  refine congrArg₂ (· + ·) (congrArg₂ (· + ·) (Finset.sum_congr rfl fun k _ => ?_) (Finset.sum_congr rfl fun k _ => ?_))
    (Finset.sum_congr rfl fun k _ => ?_)
  · rw [mulf_apply, Block.drop1, Block.drop1]; rfl
  · rw [mulf_apply, Block.drop1]
  · rw [mulf_apply, Block.drop1]

/-! ## The arrays at the region's entry -/

variable (m : (ℓ : Loc nD τ sig) → Buf (Elt Ideal) ℓ) (c : Dev nD)

/-- The queries, their axes exchanged. -/
theorem V_v0 (b : Fin 8) (k : Fin 3) (n : Fin 4096) :
    V m c main_v0 (ix3 b k n) = m (c.tc.loc main_arg0) (ix3 b n k) := by
  have e : V m c main_v0 = transpose S8x3x4096 [0, 2, 1] (m (c.tc.loc main_arg0)) transposes_S8x4096x3_S8x3x4096_0_2_1 := by
    unfold V; after_results
  rw [e]
  exact transpose_apply _ _ _ _ _ fun a => by fin_cases a <;> rfl

/-- The weights' first half. -/
theorem V_v1 (o k : Fin 256) :
    V m c main_v1 (ix2 o k) = m (c.tc.loc main_arg4) (ix2 o ⟨k.val, by omega⟩) := by
  have e : V m c main_v1 = extractStridedSlice S256x256 ![0, 0] (m (c.tc.loc main_arg4)) slices_S256x512_S256x256_0_0 := by
    unfold V; after_results
  rw [e]
  exact extractStridedSlice_apply _ _ _ _ _ fun a => by
    fin_cases a
    · exact (Nat.zero_add _).symm
    · exact (Nat.zero_add _).symm

/-- The weights' second half. -/
theorem V_v2 (o k : Fin 256) :
    V m c main_v2 (ix2 o k) = m (c.tc.loc main_arg4) (ix2 o ⟨256 + k.val, by omega⟩) := by
  have e : V m c main_v2 = extractStridedSlice S256x256 ![0, 256] (m (c.tc.loc main_arg4)) slices_S256x512_S256x256_0_256 := by
    unfold V; after_results
  rw [e]
  exact extractStridedSlice_apply _ _ _ _ _ fun a => by
    fin_cases a
    · exact (Nat.zero_add _).symm
    · rfl

/-- The first bias, as a column. -/
theorem V_v3 (o : Fin 256) : V m c main_v3 (ix2 o 0) = m (c.tc.loc main_arg5) (ix1 o) := by
  have e : V m c main_v3 = broadcastInDim S256x1 ![0] bcast_S256_S256x1_0 (m (c.tc.loc main_arg5)) := by
    unfold V; after_results
  rw [e]
  exact broadcastInDim_apply _ _ _ _ _ fun a => by fin_cases a; rfl

/-- The second bias, as a column. -/
theorem V_v4 (o : Fin 256) : V m c main_v4 (ix2 o 0) = m (c.tc.loc main_arg7) (ix1 o) := by
  have e : V m c main_v4 = broadcastInDim S256x1 ![0] bcast_S256_S256x1_0 (m (c.tc.loc main_arg7)) := by
    unfold V; after_results
  rw [e]
  exact broadcastInDim_apply _ _ _ _ _ fun a => by fin_cases a; rfl

/-! ## The blocks -/

/-- A column of the result, from its half and its place there. -/
def col (h : Fin 2) (q : Fin 2048) : Fin 4096 := ⟨2048 * h.val + q.val, by omega⟩

/-- The point works on batch `b` and half `h`: the block indices of every window there. -/
structure Works (t : Fin grid0.N) (b : Fin 8) (h : Fin 2) : Prop where
  i0 : win0_0.index t 0 = b.val ∧ win0_0.index t 1 = 0 ∧ win0_0.index t 2 = h.val
  i1 : win0_1.index t 0 = b.val ∧ win0_1.index t 1 = 0 ∧ win0_1.index t 2 = 0
  i2 : win0_2.index t 0 = b.val ∧ win0_2.index t 1 = 0 ∧ win0_2.index t 2 = h.val
  i3 : win0_3.index t 0 = b.val ∧ win0_3.index t 1 = 0 ∧ win0_3.index t 2 = 0
  i4 : win0_4.index t 0 = 0 ∧ win0_4.index t 1 = 0
  i5 : win0_5.index t 0 = 0 ∧ win0_5.index t 1 = 0
  i6 : win0_6.index t 0 = 0 ∧ win0_6.index t 1 = 0
  i7 : win0_7.index t 0 = 0 ∧ win0_7.index t 1 = 0
  i8 : win0_8.index t 0 = 0 ∧ win0_8.index t 1 = 0
  i9 : win0_9.index t 0 = b.val ∧ win0_9.index t 1 = 0 ∧ win0_9.index t 2 = h.val

/-- Every batch and half has its point. -/
theorem works : ∀ (b : Fin 8) (h : Fin 2), ∃ t, Works t b h := by
  have e : ∀ (b : Fin 8) (h : Fin 2), ∃ t : Fin grid0.N,
      (win0_0.index t 0 = b.val ∧ win0_0.index t 1 = 0 ∧ win0_0.index t 2 = h.val)
      ∧ (win0_1.index t 0 = b.val ∧ win0_1.index t 1 = 0 ∧ win0_1.index t 2 = 0)
      ∧ (win0_2.index t 0 = b.val ∧ win0_2.index t 1 = 0 ∧ win0_2.index t 2 = h.val)
      ∧ (win0_3.index t 0 = b.val ∧ win0_3.index t 1 = 0 ∧ win0_3.index t 2 = 0)
      ∧ (win0_4.index t 0 = 0 ∧ win0_4.index t 1 = 0) ∧ (win0_5.index t 0 = 0 ∧ win0_5.index t 1 = 0)
      ∧ (win0_6.index t 0 = 0 ∧ win0_6.index t 1 = 0) ∧ (win0_7.index t 0 = 0 ∧ win0_7.index t 1 = 0)
      ∧ (win0_8.index t 0 = 0 ∧ win0_8.index t 1 = 0)
      ∧ (win0_9.index t 0 = b.val ∧ win0_9.index t 1 = 0 ∧ win0_9.index t 2 = h.val) := by decide +kernel
  intro b h
  obtain ⟨t, h0, h1, h2, h3, h4, h5, h6, h7, h8, h9⟩ := e b h
  exact ⟨t, h0, h1, h2, h3, h4, h5, h6, h7, h8, h9⟩

variable {m c} {t : Fin grid0.N} {b : Fin 8} {h : Fin 2}

/-- The block of queries. -/
theorem Works.r0 (w : Works t b h) (k : Fin 3) (q : Fin 2048) :
    iblk m c 0 t (ix3 0 k q) = m (c.tc.loc main_arg0) (ix3 b (col h q) k) := by
  rw [← V_v0 m c]; unfold iblk; rw [View.read_apply]
  show V m c main_v0 _ = V m c main_v0 _
  refine congrArg _ (funext fun a => Fin.ext ?_)
  match a with
  | ⟨0, _⟩ => show win0_0.index t 0 * 1 + 1 * 0 = b.val; rw [w.i0.1]; omega
  | ⟨1, _⟩ => show win0_0.index t 1 * 3 + 1 * k.val = k.val; rw [w.i0.2.1]; omega
  | ⟨2, _⟩ => show win0_0.index t 2 * 2048 + 1 * q.val = 2048 * h.val + q.val; rw [w.i0.2.2]; omega

/-- The block of candidates. -/
theorem Works.r1 (w : Works t b h) (s : Fin 1024) (k : Fin 3) :
    iblk m c 1 t (ix3 0 s k) = m (c.tc.loc main_arg1) (ix3 b s k) := by
  rw [← V_main_arg1 m c]; unfold iblk; rw [View.read_apply]
  show V m c main_arg1 _ = V m c main_arg1 _
  refine congrArg _ (funext fun a => Fin.ext ?_)
  match a with
  | ⟨0, _⟩ => show win0_1.index t 0 * 1 + 1 * 0 = b.val; rw [w.i1.1]; omega
  | ⟨1, _⟩ => show win0_1.index t 1 * 1024 + 1 * s.val = s.val; rw [w.i1.2.1]; omega
  | ⟨2, _⟩ => show win0_1.index t 2 * 3 + 1 * k.val = k.val; rw [w.i1.2.2]; omega

/-- The block of the queries' own features. -/
theorem Works.r2 (w : Works t b h) (k : Fin 256) (q : Fin 2048) :
    iblk m c 2 t (ix3 0 k q) = m (c.tc.loc main_arg2) (ix3 b k (col h q)) := by
  rw [← V_main_arg2 m c]; unfold iblk; rw [View.read_apply]
  show V m c main_arg2 _ = V m c main_arg2 _
  refine congrArg _ (funext fun a => Fin.ext ?_)
  match a with
  | ⟨0, _⟩ => show win0_2.index t 0 * 1 + 1 * 0 = b.val; rw [w.i2.1]; omega
  | ⟨1, _⟩ => show win0_2.index t 1 * 256 + 1 * k.val = k.val; rw [w.i2.2.1]; omega
  | ⟨2, _⟩ => show win0_2.index t 2 * 2048 + 1 * q.val = 2048 * h.val + q.val; rw [w.i2.2.2]; omega

/-- The block of the candidates' features. -/
theorem Works.r3 (w : Works t b h) (k : Fin 256) (s : Fin 1024) :
    iblk m c 3 t (ix3 0 k s) = m (c.tc.loc main_arg3) (ix3 b k s) := by
  rw [← V_main_arg3 m c]; unfold iblk; rw [View.read_apply]
  show V m c main_arg3 _ = V m c main_arg3 _
  refine congrArg _ (funext fun a => Fin.ext ?_)
  match a with
  | ⟨0, _⟩ => show win0_3.index t 0 * 1 + 1 * 0 = b.val; rw [w.i3.1]; omega
  | ⟨1, _⟩ => show win0_3.index t 1 * 256 + 1 * k.val = k.val; rw [w.i3.2.1]; omega
  | ⟨2, _⟩ => show win0_3.index t 2 * 1024 + 1 * s.val = s.val; rw [w.i3.2.2]; omega

/-- The first layer's weights on the own features. -/
theorem Works.r4 (w : Works t b h) (o k : Fin 256) :
    iblk m c 4 t (ix2 o k) = m (c.tc.loc main_arg4) (ix2 o ⟨k.val, by omega⟩) := by
  rw [← V_v1 m c]; unfold iblk; rw [View.read_apply]
  show V m c main_v1 _ = V m c main_v1 _
  refine congrArg _ (funext fun a => Fin.ext ?_)
  match a with
  | ⟨0, _⟩ => show win0_4.index t 0 * 256 + 1 * o.val = o.val; rw [w.i4.1]; omega
  | ⟨1, _⟩ => show win0_4.index t 1 * 256 + 1 * k.val = k.val; rw [w.i4.2]; omega

/-- The first layer's weights on the interpolated features. -/
theorem Works.r5 (w : Works t b h) (o k : Fin 256) :
    iblk m c 5 t (ix2 o k) = m (c.tc.loc main_arg4) (ix2 o ⟨256 + k.val, by omega⟩) := by
  rw [← V_v2 m c]; unfold iblk; rw [View.read_apply]
  show V m c main_v2 _ = V m c main_v2 _
  refine congrArg _ (funext fun a => Fin.ext ?_)
  match a with
  | ⟨0, _⟩ => show win0_5.index t 0 * 256 + 1 * o.val = o.val; rw [w.i5.1]; omega
  | ⟨1, _⟩ => show win0_5.index t 1 * 256 + 1 * k.val = k.val; rw [w.i5.2]; omega

/-- The first bias. -/
theorem Works.r6 (w : Works t b h) (o : Fin 256) :
    iblk m c 6 t (ix2 o 0) = m (c.tc.loc main_arg5) (ix1 o) := by
  rw [← V_v3 m c]; unfold iblk; rw [View.read_apply]
  show V m c main_v3 _ = V m c main_v3 _
  refine congrArg _ (funext fun a => Fin.ext ?_)
  match a with
  | ⟨0, _⟩ => show win0_6.index t 0 * 256 + 1 * o.val = o.val; rw [w.i6.1]; omega
  | ⟨1, _⟩ => show win0_6.index t 1 * 1 + 1 * 0 = 0; rw [w.i6.2]

/-- The second layer's weights. -/
theorem Works.r7 (w : Works t b h) (o k : Fin 256) :
    iblk m c 7 t (ix2 o k) = m (c.tc.loc main_arg6) (ix2 o k) := by
  rw [← V_main_arg6 m c]; unfold iblk; rw [View.read_apply]
  show V m c main_arg6 _ = V m c main_arg6 _
  refine congrArg _ (funext fun a => Fin.ext ?_)
  match a with
  | ⟨0, _⟩ => show win0_7.index t 0 * 256 + 1 * o.val = o.val; rw [w.i7.1]; omega
  | ⟨1, _⟩ => show win0_7.index t 1 * 256 + 1 * k.val = k.val; rw [w.i7.2]; omega

/-- The second bias. -/
theorem Works.r8 (w : Works t b h) (o : Fin 256) :
    iblk m c 8 t (ix2 o 0) = m (c.tc.loc main_arg7) (ix1 o) := by
  rw [← V_v4 m c]; unfold iblk; rw [View.read_apply]
  show V m c main_v4 _ = V m c main_v4 _
  refine congrArg _ (funext fun a => Fin.ext ?_)
  match a with
  | ⟨0, _⟩ => show win0_8.index t 0 * 256 + 1 * o.val = o.val; rw [w.i8.1]; omega
  | ⟨1, _⟩ => show win0_8.index t 1 * 1 + 1 * 0 = 0; rw [w.i8.2]

/-- The result array at an index is its block there. -/
theorem Works.r9 (w : Works t b h) (o : Fin 256) (q : Fin 2048) :
    (dats m 0 c).arrAt 9 cfg0.N (ix3 b o (col h q))
      = Block.block (iblk m c 0 t) (iblk m c 1 t) (iblk m c 2 t) (iblk m c 3 t) (iblk m c 4 t) (iblk m c 5 t)
          (iblk m c 6 t) (iblk m c 7 t) (iblk m c 8 t) (ix3 0 o q) := by
  have e := congrFun ((Value.blocks9 m c t (flush0_9 t)).trans (Value.flushed9_A m c t)) (ix3 0 o q)
  rw [Block.out_eq] at e
  refine Eq.trans ?_ e
  rw [View.read_apply]
  show (dats m 0 c).arrAt 9 cfg0.N _ = (dats m 0 c).arrAt 9 cfg0.N _
  refine congrArg _ (funext fun a => Fin.ext ?_)
  match a with
  | ⟨0, _⟩ => show b.val = win0_9.index t 0 * 1 + 1 * 0; rw [w.i9.1]; omega
  | ⟨1, _⟩ => show o.val = win0_9.index t 1 * 256 + 1 * o.val; rw [w.i9.2.1]; omega
  | ⟨2, _⟩ => show 2048 * h.val + q.val = win0_9.index t 2 * 2048 + 1 * q.val; rw [w.i9.2.2]; omega

end Cert.Proof.Whole

end
-- ==== Proof.Sorted.lean ====
/-
  THE SORT of one query's distances: the permutation the stable sort takes, what is known of it, and the three nearest
  candidates it names when the four smallest distances differ.
-/
module

public import proofs.«01_k».proof.Proof.Whole
public import proofs.«01_k».proof.Proof.Gen.ReferenceIdeal
public import Idealize.ShloMosaic.Lib.SortFacts

@[expose] public section

noncomputable section

open Idealize.ShloMosaic Idealize.ShloMosaic.TcCoe Idealize.SL.Sem Idealize.ShloMosaic.ValueIdx

namespace Cert.Proof.Sorted

/-! ## The comparator -/

/-- The comparator's canonical form of a number is the number: zero is written as zero, and no number differs from
    itself. -/
theorem canon (l n : EReal) :
    Scalar.select (Ideal.cmp .une l l) n
      (Scalar.select (Ideal.cmp .oeq l (Ideal.ofBits .f32 0x00000000#32)) (Ideal.ofBits .f32 0x00000000#32) l) = l := by
  have e : Ideal.cmp .une l l = 0#1 := by simp [Ideal.cmp]
  rw [e, Ideal.ofBits_zero_f32]
  by_cases h : l = 0
  · have e' : Ideal.cmp .oeq l 0 = 1#1 := by simp [Ideal.cmp, h]
    rw [e', h]; rfl
  · have e' : Ideal.cmp .oeq l 0 = 0#1 := by simp [Ideal.cmp, h]
    rw [e']; rfl

open Classical in
/-- The sort's comparator is "less than". -/
theorem before_eq (l r : EReal) :
    (ReferenceIdeal.comparator_f32_d2 (F := Ideal) l r == 1#1) = decide (l < r) := by
  have e : ReferenceIdeal.comparator_f32_d2 (F := Ideal) l r = Ideal.cmp .olt l r :=
    congrArg₂ (Ideal.cmp .olt) (canon l _) (canon r _)
  rw [e]
  by_cases h : l < r <;> simp [Ideal.cmp, h]

/-- The comparator of the sort that carries the indices looks at the distances alone. -/
theorem before_pair (l r : EReal × BitVec 32) :
    ReferenceIdeal.comparator_f32_i32_d2 (F := Ideal) l r = ReferenceIdeal.comparator_f32_d2 (F := Ideal) l.1 r.1 := rfl

/-! ## The permutation -/

open Classical in
/-- The candidate that the sort puts at each place. -/
def perm (d : Fin 1024 → EReal) : Fin 1024 → Fin 1024 := sortedFrom fun k k' => decide (d k < d k')

/-- Every candidate has a place. -/
theorem perm_surjective (d : Fin 1024 → EReal) : Function.Surjective (perm d) := sortedFrom_surjective _

open Classical in
/-- The distances rise along the places. -/
theorem perm_mono (d : Fin 1024 → EReal) {i j : Fin 1024} (h : i < j) : d (perm d i) ≤ d (perm d j) := by
  have e := sortedFrom_noInversion (fun k k' => decide (d k < d k')) (fun k k' => decide (d k < d k'))
    (fun a b hab => by
      rw [decide_eq_true_eq] at hab
      rw [decide_eq_false_iff_not]
      exact not_lt_of_gt hab)
    (fun a b hab => hab)
    (fun a b c hab hbc => by
      rw [decide_eq_false_iff_not, not_lt] at *
      exact hbc.trans hab) i j h
  rw [decide_eq_false_iff_not, not_lt] at e
  exact e

/-- Two sorted distances in order. -/
theorem perm_mono' (d : Fin 1024 → EReal) {i j : Fin 1024} (h : i ≤ j) : d (perm d i) ≤ d (perm d j) := by
  rcases h.lt_or_eq with h | rfl
  · exact perm_mono d h
  · exact le_rfl

/-- The four smallest distances differ. -/
structure Apart (d : Fin 1024 → EReal) : Prop where
  h01 : d (perm d 0) < d (perm d 1)
  h12 : d (perm d 1) < d (perm d 2)
  h23 : d (perm d 2) < d (perm d 3)

/-- A candidate as near as the third is one of the three. -/
theorem Apart.only {d : Fin 1024 → EReal} (h : Apart d) (s : Fin 1024) (hs : d s ≤ d (perm d 2)) :
    s = perm d 0 ∨ s = perm d 1 ∨ s = perm d 2 := by
  obtain ⟨j, rfl⟩ := perm_surjective d s
  by_cases hj : j < 3
  · have : j = 0 ∨ j = 1 ∨ j = 2 := by omega
    rcases this with rfl | rfl | rfl
    · exact .inl rfl
    · exact .inr (.inl rfl)
    · exact .inr (.inr rfl)
  · exact absurd (h.h23.trans_le (perm_mono' d (not_lt.mp hj))) (not_lt_of_ge hs)

/-- The three nearest candidates of a column, from the sort. -/
theorem Apart.three {d : Fin 1024 → EReal} (h : Apart d) (v : Vec Ideal KernelIdeal.S1024x2048 .f32) (q : Fin 2048)
    (hv : ∀ s, v (ix2 s q) = d s) :
    Parts.Three3 v q (d (perm d 0)) (d (perm d 1)) (d (perm d 2)) (perm d 0) (perm d 1) (perm d 2) where
  hAB := h.h01
  hBC := h.h12
  hC := h.h23.trans_le le_top
  h0 := hv _
  h1 := hv _
  h2 := hv _
  only s hs := h.only s (by rw [← hv s]; exact hs)

/-! ## The interpolation as a sum of three -/

open Classical in
/-- The kernel's interpolation weighs the three nearest candidates alone. -/
theorem Apart.interp {d : Fin 1024 → EReal} (h : Apart d) (f : Fin 1024 → EReal) :
    interp f d (d (perm d 0)) (d (perm d 1)) (d (perm d 2))
      = ∑ k : Fin 3, f (perm d ⟨k.val, by omega⟩) * (inv (d (perm d ⟨k.val, by omega⟩))
          * Ideal.div 1 ((inv (d (perm d 0)) + inv (d (perm d 1))) + inv (d (perm d 2)))) := by
  have n01 : perm d 0 ≠ perm d 1 := fun e => absurd h.h01 (by rw [e]; exact lt_irrefl _)
  have n12 : perm d 1 ≠ perm d 2 := fun e => absurd h.h12 (by rw [e]; exact lt_irrefl _)
  have n02 : perm d 0 ≠ perm d 2 := fun e => absurd (h.h01.trans h.h12) (by rw [e]; exact lt_irrefl _)
  unfold Cert.Proof.interp
  rw [Fin.sum_univ_three, ← Finset.sum_subset (Finset.subset_univ {perm d 0, perm d 1, perm d 2})]
  · rw [Finset.sum_insert (by simp [n01, n02]), Finset.sum_insert (by simp [n12]), Finset.sum_singleton,
      if_pos (h.h01.trans h.h12).le, if_pos h.h12.le, if_pos le_rfl, ← add_assoc]
    rfl
  · intro s _ hs
    rw [if_neg, mul_zero]
    intro hle
    refine hs ?_
    rw [Finset.mem_insert, Finset.mem_insert, Finset.mem_singleton]
    exact h.only s hle

end Cert.Proof.Sorted

end
-- ==== Proof.Real.lean ====
/-
  THE DISTANCES AS REAL NUMBERS: on finite coordinates both orders of operations give the squared distance, a real number
  that is not negative, so the inverse weights are positive reals and dividing by their sum is multiplying by its inverse.
-/
module

public import proofs.«01_k».proof.Proof.Whole

@[expose] public section

noncomputable section

open Idealize.ShloMosaic Idealize.ShloMosaic.TcCoe Idealize.SL.Sem Idealize.ShloMosaic.ValueIdx

namespace Cert.Proof.Real

/-- A query's distance to a candidate, in the reference's order of operations: the factor minus two on the product. -/
def dist (x y : Fin 3 → EReal) : EReal :=
  (Ideal.ofBits .f32 0xC0000000#32 * ∑ k, x k * y k + ∑ k, x k * x k) + ∑ k, y k * y k

/-- The squared distance of two points. -/
def sq (x y : Fin 3 → ℝ) : ℝ := ∑ k, (x k - y k) * (x k - y k)

/-- It is not negative. -/
theorem sq_nonneg (x y : Fin 3 → ℝ) : 0 ≤ sq x y := Finset.sum_nonneg fun _ _ => mul_self_nonneg _

/-- The reference's distance of finite points. -/
theorem dist_coe (x y : Fin 3 → ℝ) : dist (fun k => (x k : EReal)) (fun k => (y k : EReal)) = (sq x y : ℝ) := by
  unfold dist sq
  rw [Words.negTwo]
  simp only [Fin.sum_univ_three, ← EReal.coe_mul, ← EReal.coe_add]
  congr 1
  ring

/-- The kernel's distance of finite points. -/
theorem near_coe (x y : Fin 3 → ℝ) : Whole.near (fun k => (x k : EReal)) (fun k => (y k : EReal)) = (sq x y : ℝ) := by
  unfold Whole.near sq
  rw [Words.negTwo]
  simp only [Fin.sum_univ_three, ← EReal.coe_mul, ← EReal.coe_add]
  congr 1
  ring

/-- A number below plus infinity in absolute value is a real. -/
theorem exists_coe {x : EReal} (h : max x (-x) < ⊤) : ∃ r : ℝ, x = r := by
  induction x using EReal.rec with
  | bot => simp at h
  | coe r => exact ⟨r, rfl⟩
  | top => simp at h

/-- Finite coordinates as real ones. -/
theorem lift {ι : Type} (x : ι → EReal) (h : ∀ i, max (x i) (-x i) < ⊤) : ∃ r : ι → ℝ, x = fun i => (r i : EReal) :=
  ⟨fun i => (exists_coe (h i)).choose, funext fun i => (exists_coe (h i)).choose_spec⟩

/-- The two distances of finite points are one real number, which is not negative. -/
theorem near_eq_dist (x y : Fin 3 → EReal) (hx : ∀ k, max (x k) (-x k) < ⊤) (hy : ∀ k, max (y k) (-y k) < ⊤) :
    Whole.near x y = dist x y ∧ ∃ r : ℝ, 0 ≤ r ∧ dist x y = r := by
  obtain ⟨x, rfl⟩ := lift x hx
  obtain ⟨y, rfl⟩ := lift y hy
  exact ⟨(near_coe x y).trans (dist_coe x y).symm, sq x y, sq_nonneg x y, dist_coe x y⟩

/-- The inverse weight of a real distance that is not negative is a positive real. -/
theorem inv_pos {d : EReal} (h : ∃ r : ℝ, 0 ≤ r ∧ d = r) : ∃ w : ℝ, 0 < w ∧ inv d = w := by
  obtain ⟨r, hr, rfl⟩ := h
  obtain ⟨e, he, heq⟩ := Words.eps
  have hpos : 0 < r + e := by linarith
  refine ⟨1 / (r + e), by positivity, ?_⟩
  unfold inv
  rw [heq, ← EReal.coe_add, Ideal.div_coe hpos.ne', one_mul]

/-- The weight normalised by a product is the weight normalised by a quotient. -/
theorem norm_eq {x a b c : EReal} (ha : ∃ r : ℝ, 0 ≤ r ∧ a = r) (hb : ∃ r : ℝ, 0 ≤ r ∧ b = r) (hc : ∃ r : ℝ, 0 ≤ r ∧ c = r) :
    x * Ideal.div 1 ((inv a + inv b) + inv c) = Ideal.div x ((inv a + inv b) + inv c) := by
  obtain ⟨p, hp, ep⟩ := inv_pos ha
  obtain ⟨q, hq, eq⟩ := inv_pos hb
  obtain ⟨r, hr, er⟩ := inv_pos hc
  refine Ideal.mul_one_div ?_
  rw [ep, eq, er, ← EReal.coe_add, ← EReal.coe_add]
  exact_mod_cast (by positivity : p + q + r ≠ 0)

end Cert.Proof.Real

end
-- ==== Proof.Ref.lean ====
/-
  THE REFERENCE'S RESULT, read one array at a time: the distances, the indices and weights of the three nearest
  candidates, the interpolated features, the two layers.
-/
module

public import proofs.«01_k».proof.Proof.Sorted
public import proofs.«01_k».proof.Proof.Real
public import proofs.«01_k».proof.Proof.Gen.ReferenceIdeal.Run
public import Idealize.ShloMosaic.Lib.StableHlo.Predicate

@[expose] public section

noncomputable section

open Idealize.ShloMosaic Idealize.ShloMosaic.TcCoe Idealize.SL.Sem Idealize.ShloMosaic.ValueIdx Cert.ReferenceIdeal
  Cert.ReferenceIdeal.Gen

namespace Cert.Proof.Ref

/-! ## The arrays -/

/-- The distances of every query to every candidate. -/
def dists (a0 : FVec Ideal S8x4096x3 .f32) (a1 : FVec Ideal S8x1024x3 .f32) : FVec Ideal S8x4096x1024 .f32 :=
  addf (addf (mulf (broadcastInDim S8x4096x1024 ![] bcast_S_S8x4096x1024 (constant S_ .f32 0xC0000000#32))
      (Host.dotGeneral dot_S8x4096x3_S8x1024x3_S8x4096x1024_2_2_1_1_0_0 none a0 a1))
      (broadcastInDim S8x4096x1024 ![0, 1, 2] bcast_S8x4096x1_S8x4096x1024_0_1_2
        (broadcastInDim S8x4096x1 ![0, 1] bcast_S8x4096_S8x4096x1_0_1
          (Host.reduceAdd (mulf a0 a0) (constant S_ .f32 0x00000000#32) reducesTo_S8x4096x3_S8x4096_d2 h_S_))))
    (broadcastInDim S8x4096x1024 ![0, 1, 2] bcast_S8x1x1024_S8x4096x1024_0_1_2
      (broadcastInDim S8x1x1024 ![0, 2] bcast_S8x1024_S8x1x1024_0_2
        (Host.reduceAdd (mulf a1 a1) (constant S_ .f32 0x00000000#32) reducesTo_S8x1024x3_S8x1024_d2 h_S_)))

/-- The indices of the three nearest candidates. -/
def places (x : FVec Ideal S8x4096x1024 .f32) : IVec S8x4096x3 32 :=
  extractStridedSlice S8x4096x3 ![0, 0, 0]
    (Host.sort2 S8x4096x1024 2 comparator_f32_i32_d2 x (iotaInDim S8x4096x1024 32 2)).2 slices_S8x4096x1024_S8x4096x3_0_0_0

/-- An index below zero counted from the end. -/
def wrap (i : IVec S8x4096x3 32) : IVec S8x4096x3 32 :=
  select (cmpi .slt i (broadcastInDim S8x4096x3 ![] bcast_S_S8x4096x3 (constantI S_ 32 0#32)))
    (addi i (broadcastInDim S8x4096x3 ![] bcast_S_S8x4096x3 (constantI S_ 32 1024#32))) i

/-- The inverse weights of the three nearest candidates. -/
def recips (x : FVec Ideal S8x4096x1024 .f32) : FVec Ideal S8x4096x3 .f32 :=
  Host.divf (broadcastInDim S8x4096x3 ![] bcast_S_S8x4096x3 (constant S_ .f32 0x3F800000#32))
    (addf (extractStridedSlice S8x4096x3 ![0, 0, 0] (Host.sort S8x4096x1024 2 comparator_f32_d2 x)
      slices_S8x4096x1024_S8x4096x3_0_0_0) (broadcastInDim S8x4096x3 ![] bcast_S_S8x4096x3 (constant S_ .f32 0x322BCC77#32)))

/-- Those weights normalised. -/
def shares (r : FVec Ideal S8x4096x3 .f32) : FVec Ideal S8x4096x3 .f32 :=
  Host.divf r (broadcastInDim S8x4096x3 ![0, 1, 2] bcast_S8x4096x1_S8x4096x3_0_1_2
    (broadcastInDim S8x4096x1 ![0, 1] bcast_S8x4096_S8x4096x1_0_1
      (Host.reduceAdd r (constant S_ .f32 0x00000000#32) reducesTo_S8x4096x3_S8x4096_d2 h_S_)))

/-- The interpolated features, from the candidates' features, the indices and the weights. -/
def blend (a3 : FVec Ideal S8x256x1024 .f32) (i : IVec S8x4096x3 32) (w : FVec Ideal S8x4096x3 .f32) :
    FVec Ideal S8x4096x256 .f32 :=
  Host.reduceAdd (mulf (Host.gather gather_S8x1024x256_S8x4096x3x1_S8x4096x3x256_3_1_0_0_1_3_11256
      (transpose S8x1024x256 [0, 2, 1] a3 transposes_S8x256x1024_S8x1024x256_0_2_1)
      (broadcastInDim S8x4096x3x1 ![0, 1, 2] bcast_S8x4096x3_S8x4096x3x1_0_1_2 i))
    (broadcastInDim S8x4096x3x256 ![0, 1, 2, 3] bcast_S8x4096x3x1_S8x4096x3x256_0_1_2_3
      (broadcastInDim S8x4096x3x1 ![0, 1, 2] bcast_S8x4096x3_S8x4096x3x1_0_1_2 w)))
    (constant S_ .f32 0x00000000#32) reducesTo_S8x4096x3x256_S8x4096x256_d2 h_S_

/-- A query's own features and the interpolated ones, side by side. -/
def both (a2 : FVec Ideal S8x256x4096 .f32) (x : FVec Ideal S8x4096x256 .f32) : FVec Ideal S8x512x4096 .f32 :=
  transpose S8x512x4096 [0, 2, 1] (concatenate S8x4096x512 2
    [⟨S8x4096x256, transpose S8x4096x256 [0, 2, 1] a2 transposes_S8x256x4096_S8x4096x256_0_2_1⟩, ⟨S8x4096x256, x⟩]
    concatenates_S8x4096x256_S8x4096x256_S8x4096x512_d2) transposes_S8x4096x512_S8x512x4096_0_2_1

/-- A bias on every batch and column. -/
def bias (b : FVec Ideal S256 .f32) : FVec Ideal S8x256x4096 .f32 :=
  broadcastInDim S8x256x4096 ![0, 1, 2] bcast_S1x256x1_S8x256x4096_0_1_2 (broadcastInDim S1x256x1 ![1] bcast_S256_S1x256x1_1 b)

/-- The array of zeros that the rectifier compares with. -/
def zeros : FVec Ideal S8x256x4096 .f32 :=
  broadcastInDim S8x256x4096 ![] bcast_S_S8x256x4096 (constant S_ .f32 0x00000000#32)

/-- The first layer. -/
def first (x : FVec Ideal S8x512x4096 .f32) (a4 : FVec Ideal S256x512 .f32) (a5 : FVec Ideal S256 .f32) :
    FVec Ideal S8x256x4096 .f32 :=
  maximumf (addf (transpose S8x256x4096 [0, 2, 1]
    (Host.dotGeneral dot_S8x512x4096_S256x512_S8x4096x256_1_1_02_0_n_n none x a4) transposes_S8x4096x256_S8x256x4096_0_2_1)
    (bias a5)) zeros

/-- The second layer. -/
def second (x : FVec Ideal S8x256x4096 .f32) (a6 : FVec Ideal S256x256 .f32) (a7 : FVec Ideal S256 .f32) :
    FVec Ideal S8x256x4096 .f32 :=
  maximumf (addf (transpose S8x256x4096 [0, 2, 1]
    (Host.dotGeneral dot_S8x256x4096_S256x256_S8x4096x256_1_1_02_0_n_n none x a6) transposes_S8x4096x256_S8x256x4096_0_2_1)
    (bias a7)) zeros

/-- The reference's result is these arrays, composed. -/
theorem result_eq (m : (ℓ : Loc nD τ sig) → Buf (Elt Ideal) ℓ) (c : Dev nD) :
    Value.res_main_v51 m c
      = second (first (both (m (c.tc.loc main_arg2)) (blend (m (c.tc.loc main_arg3))
          (wrap (places (dists (m (c.tc.loc main_arg0)) (m (c.tc.loc main_arg1)))))
          (shares (recips (dists (m (c.tc.loc main_arg0)) (m (c.tc.loc main_arg1)))))))
          (m (c.tc.loc main_arg4)) (m (c.tc.loc main_arg5))) (m (c.tc.loc main_arg6)) (m (c.tc.loc main_arg7)) := by
  unfold Value.res_main_v51
  rfl

/-! ## Read at an index -/

/-- A host sum over one axis from zero is the sum. -/
theorem total {s t : Shape} {a : Fin s.rank} (x : FVec Ideal s .f32) (h' : s.ReducesTo [a] t) (h : s.Reduces [a] t)
    (j : t.Idx) : Host.reduceAdd x (constant S_ .f32 0x00000000#32) h' h_S_ j = ∑ k : Fin (s.size a), x (h.lift j k) := by
  rw [hostReduceAdd_apply, Ideal.hostReduceAdd_single h' h]
  show Ideal.ofBits .f32 0x00000000#32 + _ = _
  rw [Ideal.ofBits_zero_f32, zero_add]

/-- The reduction of the queries' coordinates. -/
theorem red3 : S8x4096x3.Reduces [2] S8x4096 := by decide

/-- The reduction of the candidates' coordinates. -/
theorem red3' : S8x1024x3.Reduces [2] S8x1024 := by decide

/-- The reduction of the three weighted features. -/
theorem red4 : S8x4096x3x256.Reduces [2] S8x4096x256 := by decide

/-- A query's value given to every candidate. -/
theorem perQuery (x : FVec Ideal S8x4096 .f32) (b : Fin 8) (n : Fin 4096) (s : Fin 1024) :
    broadcastInDim S8x4096x1024 ![0, 1, 2] bcast_S8x4096x1_S8x4096x1024_0_1_2
      (broadcastInDim S8x4096x1 ![0, 1] bcast_S8x4096_S8x4096x1_0_1 x) (ix3 b n s) = x (ix2 b n) := by
  rw [broadcastInDim_apply _ _ _ _ (ix3 b n 0) (fun a => by fin_cases a <;> rfl),
    broadcastInDim_apply _ _ _ _ (ix2 b n) (fun a => by fin_cases a <;> rfl)]

/-- A candidate's value given to every query. -/
theorem perCandidate (x : FVec Ideal S8x1024 .f32) (b : Fin 8) (n : Fin 4096) (s : Fin 1024) :
    broadcastInDim S8x4096x1024 ![0, 1, 2] bcast_S8x1x1024_S8x4096x1024_0_1_2
      (broadcastInDim S8x1x1024 ![0, 2] bcast_S8x1024_S8x1x1024_0_2 x) (ix3 b n s) = x (ix2 b s) := by
  rw [broadcastInDim_apply _ _ _ _ (ix3 b 0 s) (fun a => by fin_cases a <;> rfl),
    broadcastInDim_apply _ _ _ _ (ix2 b s) (fun a => by fin_cases a <;> rfl)]

/-- The inner products of the queries with the candidates. -/
theorem inner (a0 : FVec Ideal S8x4096x3 .f32) (a1 : FVec Ideal S8x1024x3 .f32) (b : Fin 8) (n : Fin 4096) (s : Fin 1024) :
    Host.dotGeneral dot_S8x4096x3_S8x1024x3_S8x4096x1024_2_2_1_1_0_0 none a0 a1 (ix3 b n s)
      = ∑ k : Fin 3, a0 (ix3 b n k) * a1 (ix3 b s k) := by
  simp only [Host.dotGeneral]
  rw [Ideal.dotGeneral_apply, ← (contrEquiv1 dot_S8x4096x3_S8x1024x3_S8x4096x1024_2_2_1_1_0_0 3 rfl rfl).symm.sum_comp]
  refine Finset.sum_congr rfl fun k _ => congrArg₂ (fun x y => a0 x * a1 y) ?_ ?_
  · funext a; fin_cases a <;> rfl
  · funext a; fin_cases a <;> rfl

/-- A distance at an index. -/
theorem dists_apply (a0 : FVec Ideal S8x4096x3 .f32) (a1 : FVec Ideal S8x1024x3 .f32) (b : Fin 8) (n : Fin 4096)
    (s : Fin 1024) :
    dists a0 a1 (ix3 b n s) = Real.dist (fun k => a0 (ix3 b n k)) (fun k => a1 (ix3 b s k)) := by
  unfold dists
  rw [addf_apply, addf_apply, mulf_apply, broadcastInDim_scalar_apply, inner, perQuery, perCandidate, total _ _ red3,
    total _ _ red3']
  refine congrArg₂ (· + ·) (congrArg₂ (· + ·) rfl (Finset.sum_congr rfl fun k _ => ?_)) (Finset.sum_congr rfl fun k _ => ?_)
  · rw [mulf_apply]
    refine congrArg (fun i => a0 i * a0 i) (funext fun a => ?_)
    fin_cases a <;> rfl
  · rw [mulf_apply]
    refine congrArg (fun i => a1 i * a1 i) (funext fun a => ?_)
    fin_cases a <;> rfl

/-- An index moved along the last axis. -/
theorem along (b : Fin 8) (n : Fin 4096) (s k : Fin 1024) :
    (ix3 b n s : S8x4096x1024.Idx).along 2 k = ix3 b n k := by
  funext a; fin_cases a <;> rfl

open Classical in
/-- The comparator's relation on a query's candidates is the order of their distances. -/
theorem places_perm (x : FVec Ideal S8x4096x1024 .f32) (b : Fin 8) (n : Fin 4096) (s : Fin 1024) :
    (fun k k' => comparator_f32_d2 (F := Ideal) (x ((ix3 b n s : S8x4096x1024.Idx).along 2 k))
      (x ((ix3 b n s : S8x4096x1024.Idx).along 2 k')) == 1#1)
      = fun k k' => decide (x (ix3 b n k) < x (ix3 b n k')) :=
  funext fun k => funext fun k' => (Sorted.before_eq _ _).trans
    (congrArg₂ (fun i j => decide (x i < x j)) (along b n s k) (along b n s k'))

/-- The sorted distances at an index. -/
theorem sort_apply (x : FVec Ideal S8x4096x1024 .f32) (b : Fin 8) (n : Fin 4096) (s : Fin 1024) :
    Host.sort S8x4096x1024 2 comparator_f32_d2 x (ix3 b n s)
      = x (ix3 b n (Sorted.perm (fun k => x (ix3 b n k)) s)) := by
  unfold Host.sort
  rw [dif_pos (by decide)]
  exact (congrArg (fun R => x ((ix3 b n s : S8x4096x1024.Idx).along 2 (sortedFrom R s))) (places_perm x b n s)).trans
    (congrArg x (along b n s _))

/-- The counting array at an index. -/
theorem iota_apply (b : Fin 8) (n : Fin 4096) (s : Fin 1024) :
    iotaInDim S8x4096x1024 32 2 (ix3 b n s) = BitVec.ofNat 32 s.val := rfl

/-- The carried indices at an index. -/
theorem sort2_apply (x : FVec Ideal S8x4096x1024 .f32) (b : Fin 8) (n : Fin 4096) (s : Fin 1024) :
    (Host.sort2 S8x4096x1024 2 comparator_f32_i32_d2 x (iotaInDim S8x4096x1024 32 2)).2 (ix3 b n s)
      = BitVec.ofNat 32 (Sorted.perm (fun k => x (ix3 b n k)) s).val := by
  unfold Host.sort2
  rw [dif_pos (by decide)]
  exact (congrArg (fun R => iotaInDim S8x4096x1024 32 2 ((ix3 b n s : S8x4096x1024.Idx).along 2 (sortedFrom R s)))
    (places_perm x b n s)).trans ((congrArg (iotaInDim S8x4096x1024 32 2) (along b n s _)).trans
    (iota_apply b n (Sorted.perm (fun k => x (ix3 b n k)) s)))

/-- The nearest candidates' place among the sorted distances. -/
def top (k : Fin 3) : Fin 1024 := ⟨k.val, by omega⟩

/-- The first three of an array along its last axis. -/
theorem firstThree {α : Type} (x : S8x4096x1024.Idx → α) (b : Fin 8) (n : Fin 4096) (k : Fin 3) :
    extractStridedSlice S8x4096x3 ![0, 0, 0] x slices_S8x4096x1024_S8x4096x3_0_0_0 (ix3 b n k) = x (ix3 b n (top k)) :=
  extractStridedSlice_apply _ _ _ _ _ fun a => by fin_cases a <;> exact (Nat.zero_add _).symm

/-- A nearest candidate's index, as a word. -/
theorem places_apply (x : FVec Ideal S8x4096x1024 .f32) (b : Fin 8) (n : Fin 4096) (k : Fin 3) :
    places x (ix3 b n k) = BitVec.ofNat 32 (Sorted.perm (fun s => x (ix3 b n s)) (top k)).val := by
  unfold places
  rw [firstThree, sort2_apply]

/-- An index that is not below zero is kept. -/
theorem wrap_apply (i : IVec S8x4096x3 32) (j : S8x4096x3.Idx) (s : Fin 1024) (h : i j = BitVec.ofNat 32 s.val) :
    wrap i j = BitVec.ofNat 32 s.val := by
  unfold wrap
  rw [select_apply, h]
  have e : cmpi .slt i (broadcastInDim S8x4096x3 ![] bcast_S_S8x4096x3 (constantI S_ 32 0#32)) j = 0#1 := by
    refine eq_zero_of_ne_one fun e => ?_
    have e' : BitVec.ofBool ((BitVec.ofNat 32 s.val).slt (BitVec.ofNat 32 0)) = 1#1 := by
      rw [← e, ← h]; rfl
    exact absurd ((StableHlo.Predicate.slt_ofNat_iff s.val 0 (by omega) (by omega)).mp e') (Nat.not_lt_zero _)
  rw [e]
  rfl

/-- An inverse weight at an index. -/
theorem recips_apply (x : FVec Ideal S8x4096x1024 .f32) (b : Fin 8) (n : Fin 4096) (k : Fin 3) :
    recips x (ix3 b n k) = inv (x (ix3 b n (Sorted.perm (fun s => x (ix3 b n s)) (top k)))) := by
  unfold recips
  rw [hostDivf_apply, addf_apply, broadcastInDim_scalar_apply, broadcastInDim_scalar_apply, firstThree, sort_apply]
  unfold inv
  rw [← Ideal.ofBits_one_f32]
  rfl

/-- A normalised weight at an index. -/
theorem shares_apply (r : FVec Ideal S8x4096x3 .f32) (b : Fin 8) (n : Fin 4096) (k : Fin 3) :
    shares r (ix3 b n k) = Ideal.div (r (ix3 b n k)) (∑ j : Fin 3, r (ix3 b n j)) := by
  unfold shares
  rw [hostDivf_apply, broadcastInDim_apply _ _ _ _ (ix3 b n 0) (fun a => by fin_cases a <;> rfl),
    broadcastInDim_apply _ _ _ _ (ix2 b n) (fun a => by fin_cases a <;> rfl), total _ _ red3]
  refine congrArg (Ideal.div _) (Finset.sum_congr rfl fun j _ => congrArg r (funext fun a => ?_))
  fin_cases a <;> rfl

/-- The gathered rows at an index: the candidate's features, where the index is a candidate's. -/
theorem gather_apply (x : FVec Ideal S8x1024x256 .f32) (i : IVec S8x4096x3x1 32) (b : Fin 8) (n : Fin 4096) (k : Fin 3)
    (o : Fin 256) (s : Fin 1024) (h : i (ix4 b n k 0) = BitVec.ofNat 32 s.val) :
    Host.gather gather_S8x1024x256_S8x4096x3x1_S8x4096x3x256_3_1_0_0_1_3_11256 x i (ix4 b n k o) = x (ix3 b s o) := by
  unfold Host.gather
  refine congrArg x (funext fun a => Fin.ext ?_)
  let d := gather_S8x1024x256_S8x4096x3x1_S8x4096x3x256_3_1_0_0_1_3_11256
  let j : S8x4096x3x256.Idx := ix4 b n k o
  have none1 : (1 : Fin 3) ∉ d.operandBatchingDims := fun h => absurd (List.mem_singleton.mp h) (by decide)
  have none2 : (2 : Fin 3) ∉ d.operandBatchingDims := fun h => absurd (List.mem_singleton.mp h) (by decide)
  have none2' : (2 : Fin 3) ∉ d.startIndexMap := fun h => absurd (List.mem_singleton.mp h) (by decide)
  have a0 : d.start j i 0 + d.batchCoord j 0 + d.offCoord j 0 = b.val := by
    rw [d.start_batching _ _ _ (List.mem_singleton.mpr rfl),
      d.offCoord_eq_zero _ _ (fun h => ((d.mem_sKept _).mp h).2 (List.mem_singleton.mpr rfl)), Nat.zero_add, Nat.add_zero]
    unfold GatherDims.batchCoord
    rw [dif_pos (show (0 : Fin 3) ∈ d.operandBatchingDims from List.mem_singleton.mpr rfl)]
    rfl
  have a1 : d.start j i 1 + d.batchCoord j 1 + d.offCoord j 1 = s.val := by
    rw [d.batchCoord_eq_zero _ _ none1,
      d.offCoord_eq_zero _ _ (fun h => ((d.mem_sKept _).mp h).1 (List.mem_singleton.mpr rfl)), Nat.add_zero]
    unfold GatherDims.start
    rw [dif_pos (show (1 : Fin 3) ∈ d.startIndexMap from List.mem_singleton.mpr rfl)]
    have e : d.siIdx j ⟨List.idxOf (1 : Fin 3) d.startIndexMap,
        List.idxOf_lt_length_iff.2 (List.mem_singleton.mpr rfl)⟩ = ix4 b n k 0 := by
      funext a; refine Fin.ext ?_
      match a with
      | ⟨0, _⟩ => rfl
      | ⟨1, _⟩ => rfl
      | ⟨2, _⟩ => rfl
      | ⟨3, _⟩ => rfl
    refine (congrArg (fun y => min (i y).toInt.toNat 1023) e).trans ?_
    show min (i (ix4 b n k 0)).toInt.toNat 1023 = s.val
    rw [h, StableHlo.Predicate.toInt_ofNat_small _ (by omega)]
    omega
  have a2 : d.start j i 2 + d.batchCoord j 2 + d.offCoord j 2 = o.val := by
    rw [d.batchCoord_eq_zero _ _ none2]
    unfold GatherDims.start
    rw [dif_neg none2', Nat.add_zero, Nat.zero_add]
    rfl
  match a with
  | ⟨0, _⟩ => exact a0
  | ⟨1, _⟩ => exact a1
  | ⟨2, _⟩ => exact a2

/-- The interpolated features at an index, where the three indices are candidates'. -/
theorem blend_apply (a3 : FVec Ideal S8x256x1024 .f32) (i : IVec S8x4096x3 32) (w : FVec Ideal S8x4096x3 .f32) (b : Fin 8)
    (n : Fin 4096) (o : Fin 256) (s : Fin 3 → Fin 1024) (h : ∀ k, i (ix3 b n k) = BitVec.ofNat 32 (s k).val) :
    blend a3 i w (ix3 b n o) = ∑ k : Fin 3, a3 (ix3 b o (s k)) * w (ix3 b n k) := by
  unfold blend
  rw [total _ _ red4]
  refine Finset.sum_congr rfl fun (k : Fin 3) _ => ?_
  have e : red4.lift (ix3 b n o) k = ix4 b n k o := by funext a; fin_cases a <;> rfl
  rw [e, mulf_apply, gather_apply _ _ b n k o (s k)
      ((broadcastInDim_apply _ _ _ _ (ix3 b n k) (fun a => by fin_cases a <;> rfl)).trans (h k)),
    broadcastInDim_apply _ _ _ _ (ix4 b n k 0) (fun a => by fin_cases a <;> rfl),
    broadcastInDim_apply _ _ _ _ (ix3 b n k) (fun a => by fin_cases a <;> rfl),
    transpose_apply _ _ _ _ (ix3 b o (s k)) (fun a => by fin_cases a <;> rfl)]

/-- The features side by side, in the own half. -/
theorem both_left (a2 : FVec Ideal S8x256x4096 .f32) (x : FVec Ideal S8x4096x256 .f32) (b : Fin 8) (k : Fin 256)
    (n : Fin 4096) : both a2 x (ix3 b ⟨k.val, by omega⟩ n) = a2 (ix3 b k n) := by
  unfold both
  rw [transpose_apply _ _ _ _ (ix3 b n (⟨k.val, by omega⟩ : Fin 512)) (fun a => by fin_cases a <;> rfl),
    concatenate_pair_apply_left (t := S8x4096x512) (s₁ := S8x4096x256) (s₂ := S8x4096x256) 2 _ _ _ _ rfl (ix3 b n k)
      (fun a => by fin_cases a <;> rfl),
    transpose_apply _ _ _ _ (ix3 b k n) (fun a => by fin_cases a <;> rfl)]

/-- The features side by side, in the interpolated half. -/
theorem both_right (a2 : FVec Ideal S8x256x4096 .f32) (x : FVec Ideal S8x4096x256 .f32) (b : Fin 8) (k : Fin 256)
    (n : Fin 4096) : both a2 x (ix3 b ⟨256 + k.val, by omega⟩ n) = x (ix3 b n k) := by
  unfold both
  rw [transpose_apply _ _ _ _ (ix3 b n (⟨256 + k.val, by omega⟩ : Fin 512)) (fun a => by fin_cases a <;> rfl),
    concatenate_pair_apply_right (t := S8x4096x512) (s₁ := S8x4096x256) (s₂ := S8x4096x256) 2 _ _ _ _ rfl rfl (ix3 b n k)
      (fun a ha => by fin_cases a; exacts [rfl, rfl, absurd rfl ha]) (Nat.add_comm _ _)]

/-- A bias at an index. -/
theorem bias_apply (x : FVec Ideal S256 .f32) (b : Fin 8) (o : Fin 256) (n : Fin 4096) : bias x (ix3 b o n) = x (ix1 o) := by
  unfold bias
  rw [broadcastInDim_apply _ _ _ _ (ix3 0 o 0) (fun a => by fin_cases a <;> rfl),
    broadcastInDim_apply _ _ _ _ (ix1 o) (fun a => by fin_cases a; rfl)]

/-- A zero. -/
theorem zeros_apply (j : S8x256x4096.Idx) : zeros j = (0 : EReal) := by
  unfold zeros
  rw [broadcastInDim_scalar_apply]
  exact Ideal.ofBits_zero_f32

/-- The first layer at an index. -/
theorem first_apply (x : FVec Ideal S8x512x4096 .f32) (a4 : FVec Ideal S256x512 .f32) (a5 : FVec Ideal S256 .f32) (b : Fin 8)
    (o : Fin 256) (n : Fin 4096) :
    first x a4 a5 (ix3 b o n) = max (∑ k : Fin 512, a4 (ix2 o k) * x (ix3 b k n) + a5 (ix1 o)) 0 := by
  unfold first
  rw [maximumf_apply, addf_apply, bias_apply, zeros_apply,
    transpose_apply _ _ _ _ (ix3 b n o) (fun a => by fin_cases a <;> rfl)]
  refine congrArg (fun y => max (y + a5 (ix1 o)) 0) ?_
  simp only [Host.dotGeneral]
  rw [Ideal.dotGeneral_apply, ← (contrEquiv1 dot_S8x512x4096_S256x512_S8x4096x256_1_1_02_0_n_n 512 rfl rfl).symm.sum_comp]
  refine Finset.sum_congr rfl fun k _ => (congrArg₂ (fun i j => x i * a4 j) ?_ ?_).trans (mul_comm _ _)
  · funext a; fin_cases a <;> rfl
  · funext a; fin_cases a <;> rfl

/-- The second layer at an index. -/
theorem second_apply (x : FVec Ideal S8x256x4096 .f32) (a6 : FVec Ideal S256x256 .f32) (a7 : FVec Ideal S256 .f32) (b : Fin 8)
    (o : Fin 256) (n : Fin 4096) :
    second x a6 a7 (ix3 b o n) = max (∑ k : Fin 256, a6 (ix2 o k) * x (ix3 b k n) + a7 (ix1 o)) 0 := by
  unfold second
  rw [maximumf_apply, addf_apply, bias_apply, zeros_apply,
    transpose_apply _ _ _ _ (ix3 b n o) (fun a => by fin_cases a <;> rfl)]
  refine congrArg (fun y => max (y + a7 (ix1 o)) 0) ?_
  simp only [Host.dotGeneral]
  rw [Ideal.dotGeneral_apply, ← (contrEquiv1 dot_S8x256x4096_S256x256_S8x4096x256_1_1_02_0_n_n 256 rfl rfl).symm.sum_comp]
  refine Finset.sum_congr rfl fun k _ => (congrArg₂ (fun i j => x i * a6 j) ?_ ?_).trans (mul_comm _ _)
  · funext a; fin_cases a <;> rfl
  · funext a; fin_cases a <;> rfl

end Cert.Proof.Ref

end
-- ==== Proof.Pre.lean ====
/-
  WHAT THE PRECONDITION SAYS: the candidates' coordinates are finite, and the four smallest distances of a query rise strictly; a query's
  coordinates are then finite too.
-/
module

public import proofs.«01_k».proof.Proof.Ref
public import proofs.«01_k».proof.Proof.Gen.Pre_near_apart
public import Idealize.ShloMosaic.Lib.ReduceAll

@[expose] public section

noncomputable section

open Idealize.ShloMosaic Idealize.ShloMosaic.ValueIdx Cert.Pre_near_apart Cert.Pre_near_apart.Facts

namespace Cert.Proof.Pre

/-- The bit "every magnitude is below infinity" as printed. -/
theorem finite_of_all {s : Shape} {axes : List (Fin s.rank)} (x : FVec Ideal s .f32) (h0 : S_.BroadcastsInDim s ![])
    (h : s.ReducesTo axes S_) (hu : 0 < S_.numel) (j : S_.Idx)
    (e : Host.reduce IntOp.andi (cmpf .olt (Host.absf x) (broadcastInDim s ![] h0 (constant S_ .f32 0x7F800000#32)))
      (constantI S_ 1 1#1) h hu j = 1#1) (i : s.Idx) : max (x i) (-x i) < ⊤ := by
  have : Subsingleton S_.Idx := ⟨fun a b => funext fun k => k.elim0⟩
  have e1 : BitVec.ofBool (decide (max (x i) (-x i) < Ideal.ofBits .f32 0x7F800000#32)) = 1#1 :=
    Host.reduce_andi_all _ _ h hu j e i
  rw [Words.inf] at e1
  exact of_decide_eq_true ((StableHlo.Predicate.ofBool_eq_one_iff _).mp e1)

/-- The first four sorted distances at an index. -/
theorem four (x : FVec Ideal S8x4096x1024 .f32) (b : Fin 8) (n : Fin 4096) (k : Fin 4) :
    extractStridedSlice S8x4096x4 ![0, 0, 0] (fn_sort (F := Ideal) x) slices_S8x4096x1024_S8x4096x4_0_0_0 (ix3 b n k)
      = x (ix3 b n (Sorted.perm (fun s => x (ix3 b n s)) ⟨k.val, by omega⟩)) :=
  (extractStridedSlice_apply _ _ _ _ (ix3 b n ⟨k.val, by omega⟩)
    fun a => by fin_cases a <;> exact (Nat.zero_add _).symm).trans (Ref.sort_apply x b n _)

/-- A query's neighbouring sorted distances rise where the printed bit says so for all. -/
theorem rise_of_all (x : FVec Ideal S8x4096x1024 .f32) (v : FVec Ideal S8x4096x4 .f32)
    (hv : v = extractStridedSlice S8x4096x4 ![0, 0, 0] (fn_sort (F := Ideal) x) slices_S8x4096x1024_S8x4096x4_0_0_0)
    (j : S_.Idx)
    (e : Host.reduce IntOp.andi (cmpf .olt (extractStridedSlice S8x4096x3 ![0, 0, 0] v slices_S8x4096x4_S8x4096x3_0_0_0)
      (extractStridedSlice S8x4096x3 ![0, 0, 1] v slices_S8x4096x4_S8x4096x3_0_0_1)) (constantI S_ 1 1#1)
      reducesTo_S8x4096x3_S_d0_1_2 h_S_ j = 1#1) (b : Fin 8) (n : Fin 4096) (k : Fin 3) :
    x (ix3 b n (Sorted.perm (fun s => x (ix3 b n s)) ⟨k.val, by omega⟩))
      < x (ix3 b n (Sorted.perm (fun s => x (ix3 b n s)) ⟨k.val + 1, by omega⟩)) := by
  have : Subsingleton S_.Idx := ⟨fun a b => funext fun k => k.elim0⟩
  have e1 : BitVec.ofBool (decide (
      extractStridedSlice S8x4096x3 ![0, 0, 0] v slices_S8x4096x4_S8x4096x3_0_0_0 (ix3 b n k)
        < extractStridedSlice S8x4096x3 ![0, 0, 1] v slices_S8x4096x4_S8x4096x3_0_0_1 (ix3 b n k))) = 1#1 :=
    Host.reduce_andi_all _ _ _ _ j e (ix3 b n k)
  have e2 := of_decide_eq_true ((StableHlo.Predicate.ofBool_eq_one_iff _).mp e1)
  rw [extractStridedSlice_apply _ _ _ _ (ix3 b n (⟨k.val, by omega⟩ : Fin 4))
      (fun a => by fin_cases a <;> exact (Nat.zero_add _).symm),
    extractStridedSlice_apply _ _ _ _ (ix3 b n (⟨k.val + 1, by omega⟩ : Fin 4))
      (fun a => by fin_cases a; exacts [(Nat.zero_add _).symm, (Nat.zero_add _).symm, Nat.add_comm _ _]), hv] at e2
  rw [four, four] at e2
  exact e2

/-- A square is not negative. -/
theorem square_nonneg (x : EReal) : 0 ≤ x * x := by
  rcases le_total 0 x with h | h
  · exact mul_nonneg h h
  · rw [← neg_mul_neg]
    have h' : 0 ≤ -x := EReal.neg_nonneg.2 h
    exact mul_nonneg h' h'

/-- A query with an infinite coordinate is infinitely far from a candidate, or minus infinitely. -/
theorem far_of_infinite (x y : Fin 3 → EReal) (k : Fin 3) (hk : max (x k) (-x k) = ⊤) :
    Real.dist x y = ⊥ ∨ Real.dist x y = ⊤ := by
  have hs : x k * x k = ⊤ := by
    rcases max_choice (x k) (-x k) with h | h <;> rw [h] at hk
    · rw [hk]; rfl
    · rw [← neg_mul_neg, hk]; rfl
  have hx : ∑ k, x k * x k = ⊤ :=
    top_le_iff.mp (hs ▸ Finset.single_le_sum (f := fun k => x k * x k) (fun i _ => square_nonneg _) (Finset.mem_univ k))
  have hy : ∑ k, y k * y k ≠ ⊥ :=
    (lt_of_lt_of_le EReal.bot_lt_zero (Finset.sum_nonneg fun i _ => square_nonneg (y i))).ne'
  unfold Real.dist
  rw [hx]
  by_cases ha : Ideal.ofBits .f32 0xC0000000#32 * ∑ k, x k * y k = ⊥
  · left; rw [ha, EReal.bot_add, EReal.bot_add]
  · right; rw [EReal.add_top_of_ne_bot ha, EReal.top_add_of_ne_bot hy]

/-- A query whose smallest distances rise strictly has finite coordinates: two infinities are not enough for three
    values. -/
theorem finite_of_apart (x : Fin 3 → EReal) (y : Fin 1024 → Fin 3 → EReal) (h : Sorted.Apart fun s => Real.dist x (y s))
    (k : Fin 3) : max (x k) (-x k) < ⊤ := by
  refine lt_top_iff_ne_top.2 fun hk => ?_
  rcases far_of_infinite x (y (Sorted.perm (fun s => Real.dist x (y s)) 1)) k hk with e | e
  · exact absurd h.h01 (by rw [e]; exact not_lt_bot)
  · exact absurd h.h12 (by rw [e]; exact not_top_lt)

/-- The precondition read: finite coordinates, strictly rising smallest distances. -/
theorem read (a0 : FVec Ideal S8x4096x3 .f32) (a1 : FVec Ideal S8x1024x3 .f32) (a2 : FVec Ideal S8x256x4096 .f32)
    (a3 : FVec Ideal S8x256x1024 .f32) (a4 : FVec Ideal S256x512 .f32) (a5 : FVec Ideal S256 .f32)
    (a6 : FVec Ideal S256x256 .f32) (a7 : FVec Ideal S256 .f32) (h : fn (F := Ideal) a0 a1 a2 a3 a4 a5 a6 a7 = fun _ => 1#1) :
    (∀ b n k, max (a0 (ix3 b n k)) (-a0 (ix3 b n k)) < ⊤) ∧ (∀ i, max (a1 i) (-a1 i) < ⊤)
      ∧ ∀ b n, Sorted.Apart fun s => Ref.dists a0 a1 (ix3 b n s) := by
  have j : S_.Idx := fun k => k.elim0
  obtain ⟨e1, e2⟩ := IntOp.andi_eq_one.1 (congrFun h j)
  have ha : ∀ b n, Sorted.Apart fun s => Ref.dists a0 a1 (ix3 b n s) := fun b n =>
    have r := rise_of_all (Ref.dists a0 a1) _ rfl j e2 b n
    ⟨r 0, r 1, r 2⟩
  refine ⟨fun b n k => ?_, finite_of_all a1 _ _ _ j e1, ha⟩
  have e := ha b n
  rw [funext fun s => Ref.dists_apply a0 a1 b n s] at e
  exact finite_of_apart (fun k => a0 (ix3 b n k)) (fun s k => a1 (ix3 b s k)) e k

end Cert.Proof.Pre

end
-- ==== Proof.Equal.lean ====
/-
  THE KERNEL'S RESULT IS THE REFERENCE'S, entry by entry, where the precondition holds.
-/
module

public import proofs.«01_k».proof.Proof.Pre
public import proofs.«01_k».proof.Proof.Whole

@[expose] public section

noncomputable section

open Idealize.ShloMosaic Idealize.ShloMosaic.TcCoe Idealize.SL.Sem Idealize.ShloMosaic.ValueIdx Cert.ReferenceIdeal
  Cert.ReferenceIdeal.Gen

namespace Cert.Proof.Equal

/-- The interpolated features as the reference weighs them: the three nearest candidates by their distances `d`. -/
def three (f d : Fin 1024 → EReal) : EReal :=
  ∑ k : Fin 3, f (Sorted.perm d (Ref.top k))
    * Ideal.div (inv (d (Sorted.perm d (Ref.top k)))) (∑ j : Fin 3, inv (d (Sorted.perm d (Ref.top j))))

/-- The reference's composed arrays at an index. -/
theorem ref_apply (x : FVec Ideal S8x4096x1024 .f32) (a2 : FVec Ideal S8x256x4096 .f32) (a3 : FVec Ideal S8x256x1024 .f32)
    (a4 : FVec Ideal S256x512 .f32) (a5 : FVec Ideal S256 .f32) (a6 : FVec Ideal S256x256 .f32) (a7 : FVec Ideal S256 .f32)
    (b : Fin 8) (o : Fin 256) (n : Fin 4096) :
    Ref.second (Ref.first (Ref.both a2 (Ref.blend a3 (Ref.wrap (Ref.places x)) (Ref.shares (Ref.recips x)))) a4 a5) a6 a7
        (ix3 b o n)
      = tail (mix (fun k => a2 (ix3 b k n)) (fun k => three (fun s => a3 (ix3 b k s)) (fun s => x (ix3 b n s)))
            (fun o k => a4 (ix2 o ⟨k.val, by omega⟩)) (fun o k => a4 (ix2 o ⟨256 + k.val, by omega⟩)) (fun o => a5 (ix1 o)))
          (fun o k => a6 (ix2 o k)) (fun o => a7 (ix1 o)) o := by
  rw [Ref.second_apply]
  unfold tail
  refine congrArg (fun y => max (y + a7 (ix1 o)) 0) (Finset.sum_congr rfl fun k _ => congrArg (a6 (ix2 o k) * ·) ?_)
  rw [Ref.first_apply]
  unfold mix
  refine congrArg (fun y => max (y + a5 (ix1 k)) 0) ((Fin.sum_univ_add (a := 256) (b := 256) _).trans ?_)
  refine congrArg₂ (· + ·) (Finset.sum_congr rfl fun j _ => congrArg₂ (· * ·) rfl (Ref.both_left _ _ b j n))
    (Finset.sum_congr rfl fun j _ => congrArg₂ (· * ·) rfl ((Ref.both_right _ _ b j n).trans ?_))
  rw [Ref.blend_apply a3 _ _ b n j (fun k => Sorted.perm (fun s => x (ix3 b n s)) (Ref.top k))
    fun k => Ref.wrap_apply _ _ _ (Ref.places_apply x b n k)]
  unfold three
  refine Finset.sum_congr rfl fun k _ => congrArg (a3 (ix3 b j (Sorted.perm (fun s => x (ix3 b n s)) (Ref.top k))) * ·) ?_
  exact (Ref.shares_apply _ b n k).trans
    (congrArg₂ Ideal.div (Ref.recips_apply x b n k) (Finset.sum_congr rfl fun j _ => Ref.recips_apply x b n j))

/-- The kernel's weights on every candidate select the three nearest and weigh them as the reference does. -/
theorem interp_eq {d : Fin 1024 → EReal} (h : Sorted.Apart d) (hd : ∀ s, ∃ r : ℝ, 0 ≤ r ∧ d s = r) (f : Fin 1024 → EReal) :
    interp f d (d (Sorted.perm d 0)) (d (Sorted.perm d 1)) (d (Sorted.perm d 2)) = three f d := by
  have e0 : Ref.top 0 = 0 := Fin.ext rfl
  have e1 : Ref.top 1 = 1 := Fin.ext rfl
  have e2 : Ref.top 2 = 2 := Fin.ext rfl
  unfold three
  rw [h.interp f, Fin.sum_univ_three (fun j => inv (d (Sorted.perm d (Ref.top j)))), e0, e1, e2]
  exact Finset.sum_congr rfl fun k _ => congrArg (f (Sorted.perm d (Ref.top k)) * ·) (Real.norm_eq (hd _) (hd _) (hd _))

/-- A column lies in one of the two halves. -/
theorem col_surjective (n : Fin 4096) : ∃ h q, n = Whole.col h q :=
  ⟨⟨n.val / 2048, by omega⟩, ⟨n.val % 2048, by omega⟩, Fin.ext (Nat.div_add_mod _ _).symm⟩

/-- The two results, entry by entry, of the same arguments. -/
theorem result_apply (m : (ℓ : Loc KernelIdeal.nD KernelIdeal.τ KernelIdeal.sig) → Buf (Elt Ideal) ℓ)
    (c : Dev KernelIdeal.nD) (a0 : FVec Ideal S8x4096x3 .f32) (a1 : FVec Ideal S8x1024x3 .f32)
    (h0 : m (c.tc.loc KernelIdeal.main_arg0) = a0) (h1 : m (c.tc.loc KernelIdeal.main_arg1) = a1)
    (f0 : ∀ b n k, max (a0 (ix3 b n k)) (-a0 (ix3 b n k)) < ⊤) (f1 : ∀ i, max (a1 i) (-a1 i) < ⊤)
    (ha : ∀ b n, Sorted.Apart fun s => Ref.dists a0 a1 (ix3 b n s)) (b : Fin 8) (o : Fin 256) (n : Fin 4096) :
    (KernelIdeal.Gen.dats m 0 c).arrAt 9 KernelIdeal.cfg0.N (ix3 b o n)
      = Ref.second (Ref.first (Ref.both (m (c.tc.loc KernelIdeal.main_arg2))
          (Ref.blend (m (c.tc.loc KernelIdeal.main_arg3)) (Ref.wrap (Ref.places (Ref.dists a0 a1)))
            (Ref.shares (Ref.recips (Ref.dists a0 a1))))) (m (c.tc.loc KernelIdeal.main_arg4)) (m (c.tc.loc KernelIdeal.main_arg5)))
          (m (c.tc.loc KernelIdeal.main_arg6)) (m (c.tc.loc KernelIdeal.main_arg7)) (ix3 b o n) := by
  obtain ⟨h, q, rfl⟩ := col_surjective n
  obtain ⟨t, w⟩ := Whole.works b h
  let d : Fin 1024 → EReal := fun s => Ref.dists a0 a1 (ix3 b (Whole.col h q) s)
  have hd : ∀ s, KernelIdeal.Gen.k0_pay2 (KernelIdeal.Gen.iblk m c 0 t) (KernelIdeal.Gen.iblk m c 1 t) (ix2 s q)
      = d s ∧ ∃ r : ℝ, 0 ≤ r ∧ d s = r := fun s => by
    have e := Real.near_eq_dist (fun k => a0 (ix3 b (Whole.col h q) k)) (fun k => a1 (ix3 b s k)) (f0 b (Whole.col h q)) (fun k => f1 _)
    show _ = Ref.dists a0 a1 _ ∧ ∃ r : ℝ, 0 ≤ r ∧ Ref.dists a0 a1 _ = r
    rw [Whole.near_apply, Ref.dists_apply, ← e.1]
    refine ⟨congrArg₂ Whole.near (funext fun k => ?_) (funext fun k => ?_), by rw [e.1]; exact e.2⟩
    · rw [← h0]; exact w.r0 k q
    · rw [← h1]; exact w.r1 s k
  have hi : ∀ k, interp (fun s => KernelIdeal.Gen.iblk m c 3 t (ix3 0 k s))
      (fun s => KernelIdeal.Gen.k0_pay2 (KernelIdeal.Gen.iblk m c 0 t) (KernelIdeal.Gen.iblk m c 1 t) (ix2 s q))
      (d (Sorted.perm d 0)) (d (Sorted.perm d 1)) (d (Sorted.perm d 2))
      = three (fun s => m (c.tc.loc KernelIdeal.main_arg3) (ix3 b k s)) d := fun k =>
    (congrArg₂ (fun f g => interp f g (d (Sorted.perm d 0)) (d (Sorted.perm d 1)) (d (Sorted.perm d 2)))
      (funext fun s => w.r3 k s) (funext fun s => (hd s).1)).trans
      (interp_eq (ha b (Whole.col h q)) (fun s => (hd s).2) _)
  refine (w.r9 o q).trans ?_
  refine (Block.block_apply _ _ _ _ _ _ _ _ _ o q ((ha b (Whole.col h q)).three _ q fun s => (hd s).1)).trans ?_
  refine Eq.trans ?_ (ref_apply _ _ _ _ _ _ _ b o (Whole.col h q)).symm
  rw [funext hi, funext fun k => w.r2 k q, funext fun o => funext fun k => w.r4 o k,
    funext fun o => funext fun k => w.r5 o k, funext fun o => w.r6 o,
    funext fun o => funext fun k => w.r7 o k, funext fun o => w.r8 o]

end Cert.Proof.Equal

end
-- ==== Proof.lean ====
/-
  THE CLAIMS, each from the module that proves its content.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_near_apart
public import Idealize.ShloMosaic.Adequacy
public import Idealize.ShloMosaic.Init
public import Idealize.ShloMosaic.Lib.Quiescent
public import proofs.«01_k».proof.Proof.Equal

@[expose] public section

noncomputable section

open Idealize.ShloMosaic Idealize.ShloMosaic.ValueIdx Idealize.SL.Sem

namespace Cert.Proof

/-- The kernel runs, keeps its arguments and leaves every semaphore at zero. -/
theorem frame_kernel : Cert.quiescent_Kernel := fun m ρ _ => Cert.Kernel.Gen.frame m ρ

/-- So does the idealized kernel. -/
theorem frame_ideal : Cert.quiescent_KernelIdeal := fun m ρ _ => Cert.KernelIdeal.Gen.frame m ρ

/-- So does the reference, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealized kernel differs from the kernel by the one named constant. -/
theorem preserved : Cert.preserves_Kernel_KernelIdeal :=
  IdealRules.named_const.statement Cert.KernelIdeal.κ "far" .f32 0x7F61B1E6#32 ⊤ rfl

/-- The kernel's result array is the reference's, where the precondition holds and the arguments agree. -/
theorem equal_results : Cert.algebraic_KernelIdeal_ReferenceIdeal_pre_near_apart := by
  intro m ρ m' ρ' hpre hagree
  refine ⟨fun c => (Cert.KernelIdeal.Gen.dats m 0 c).arrAt 9 Cert.KernelIdeal.cfg0.N,
    Cert.KernelIdeal.Value.run_blocks m ρ, ?_⟩
  refine (θ_run Cert.ReferenceIdeal.defs _ _).mono (fun r h c => ⟨(h c).1.trans ?_, (h c).2⟩)
    (Cert.ReferenceIdeal.Value.run (F := Ideal) m' ρ')
  obtain ⟨f0, f1, ha⟩ := Pre.read _ _ _ _ _ _ _ _ (hpre c)
  obtain ⟨g0, g1, g2, g3, g4, g5, g6, g7⟩ := hagree c
  refine (Ref.result_eq m' c).trans ?_
  rw [g0, g1, g2, g3, g4, g5, g6, g7]
  funext i
  obtain ⟨b, o, n, rfl⟩ : ∃ (b : Fin 8) (o : Fin 256) (n : Fin 4096), i = ix3 b o n :=
    ⟨i 0, i 1, i 2, by funext a; fin_cases a <;> rfl⟩
  exact (Equal.result_apply m c _ _ rfl rfl f0 f1 ha b o n).symm

/-- Every claim of the certificate. -/
theorem claim : Cert.Claim :=
  ⟨Cert.Kernel.Gen.facts, Cert.KernelIdeal.Gen.facts, Cert.ReferenceIdeal.Gen.facts, Cert.Pre_near_apart.Gen.facts,
    frame_kernel, frame_ideal, fun m ρ _ => Cert.KernelIdeal.Gen.frame m ρ, frame_reference,
    fun m ρ _ => frame_reference m ρ trivial, preserved, equal_results⟩

end Cert.Proof

end
